-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = Layout.blockN ⟨3, ![2, 512, 2048]⟩ ⟨3, ![2, 1024, 2048]⟩ (Layout.meshBlock [2, 2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S_ : Shape := ⟨0, ![]⟩
abbrev S2x128x16x64 : Shape := ⟨4, ![2, 128, 16, 64]⟩
abbrev S2x128x1024 : Shape := ⟨3, ![2, 128, 1024]⟩
abbrev S2x512x2048 : Shape := ⟨3, ![2, 512, 2048]⟩
abbrev S4x2x32x2048 : Shape := ⟨4, ![4, 2, 32, 2048]⟩
abbrev S4x4x2x32x2048 : Shape := ⟨5, ![4, 4, 2, 32, 2048]⟩
abbrev S4 : Shape := ⟨1, ![4]⟩
abbrev S3x4 : Shape := ⟨2, ![3, 4]⟩
abbrev S4x4 : Shape := ⟨2, ![4, 4]⟩
abbrev S1x32x1024 : Shape := ⟨3, ![1, 32, 1024]⟩
abbrev S32x1024 : Shape := ⟨2, ![32, 1024]⟩
abbrev S32x2048 : Shape := ⟨2, ![32, 2048]⟩
abbrev S1x1x32x2048 : Shape := ⟨4, ![1, 1, 32, 2048]⟩
abbrev S1 : Shape := ⟨1, ![1]⟩
abbrev S1x2x32x2048 : Shape := ⟨4, ![1, 2, 32, 2048]⟩
abbrev S2x32x2048 : Shape := ⟨3, ![2, 32, 2048]⟩
abbrev S1x32x2048 : Shape := ⟨3, ![1, 32, 2048]⟩
abbrev S1x1 : Shape := ⟨2, ![1, 1]⟩
abbrev S1x1x2x32x2048 : Shape := ⟨5, ![1, 1, 2, 32, 2048]⟩
abbrev S1x1x1x32x2048 : Shape := ⟨5, ![1, 1, 1, 32, 2048]⟩

abbrev nBuf : Space → Nat
  | .hbm => 56
  | .vmem => 8
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S2x128x16x64, .f32⟩
  | .hbm, ⟨44, _⟩ => ⟨S2x128x1024, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S2x128x16x64, .f32⟩
  | .hbm, ⟨54, _⟩ => ⟨S2x128x1024, .f32⟩
  | .hbm, ⟨55, _⟩ => ⟨S2x512x2048, .f32⟩
  | .local _ .vmem, ⟨0, _⟩ => ⟨S2x128x1024, .f32⟩
  | .local _ .vmem, ⟨1, _⟩ => ⟨S2x128x1024, .f32⟩
  | .local _ .vmem, ⟨2, _⟩ => ⟨S1024x2048, .f32⟩
  | .local _ .vmem, ⟨3, _⟩ => ⟨S2x512x2048, .f32⟩
  | .local _ .vmem, ⟨4, _⟩ => ⟨S4x2x32x2048, .bf16⟩
  | .local _ .vmem, ⟨5, _⟩ => ⟨S4x2x32x2048, .bf16⟩
  | .local _ .vmem, ⟨6, _⟩ => ⟨S4x2x32x2048, .bf16⟩
  | .local _ .vmem, ⟨7, _⟩ => ⟨S4x4x2x32x2048, .bf16⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_v17 : Ref sig .tc := ⟨.hbm, 27, rfl⟩
abbrev main_c_8 : Ref sig .tc := ⟨.hbm, 28, rfl⟩
abbrev main_v18 : Ref sig .tc := ⟨.hbm, 29, rfl⟩
abbrev main_c_9 : Ref sig .tc := ⟨.hbm, 30, rfl⟩
abbrev main_v19 : Ref sig .tc := ⟨.hbm, 31, rfl⟩
abbrev main_c_10 : Ref sig .tc := ⟨.hbm, 32, rfl⟩
abbrev main_v20 : Ref sig .tc := ⟨.hbm, 33, rfl⟩
abbrev main_v21 : Ref sig .tc := ⟨.hbm, 34, rfl⟩
abbrev main_c_11 : Ref sig .tc := ⟨.hbm, 35, rfl⟩
abbrev main_v22 : Ref sig .tc := ⟨.hbm, 36, rfl⟩
abbrev main_c_12 : Ref sig .tc := ⟨.hbm, 37, rfl⟩
abbrev main_v23 : Ref sig .tc := ⟨.hbm, 38, rfl⟩
abbrev main_v24 : Ref sig .tc := ⟨.hbm, 39, rfl⟩
abbrev main_c_13 : Ref sig .tc := ⟨.hbm, 40, rfl⟩
abbrev main_c_14 : Ref sig .tc := ⟨.hbm, 41, rfl⟩
abbrev main_c_15 : Ref sig .tc := ⟨.hbm, 42, rfl⟩
abbrev main_v25 : Ref sig .tc := ⟨.hbm, 43, rfl⟩
abbrev main_v26 : Ref sig .tc := ⟨.hbm, 44, rfl⟩
abbrev main_c_16 : Ref sig .tc := ⟨.hbm, 45, rfl⟩
abbrev main_v27 : Ref sig .tc := ⟨.hbm, 46, rfl⟩
abbrev main_c_17 : Ref sig .tc := ⟨.hbm, 47, rfl⟩
abbrev main_v28 : Ref sig .tc := ⟨.hbm, 48, rfl⟩
abbrev main_v29 : Ref sig .tc := ⟨.hbm, 49, rfl⟩
abbrev main_c_18 : Ref sig .tc := ⟨.hbm, 50, rfl⟩
abbrev main_c_19 : Ref sig .tc := ⟨.hbm, 51, rfl⟩
abbrev main_c_20 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v27 : BitVec 32 := Scalar.muli v2 c4_i32_17
  let v28 : BitVec 32 := Scalar.addi c0_i32 v27
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_18 : BitVec 32 := 2#32
  let v29 : BitVec 32 := Scalar.muli v9 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v33 : BitVec 32 := Scalar.muli v10 c4_i32_21
  let v34 : BitVec 32 := Scalar.addi c0_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v35 : BitVec 32 := Scalar.muli v5 c2_i32_23
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v37 : BitVec 32 := Scalar.muli v8 c1_i32_24
  let v38 : BitVec 32 := Scalar.addi v36 v37
  v38.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v41 : BitVec 32 := Scalar.muli v5 c2_i32_28
  let v42 : BitVec 32 := Scalar.addi v40 v41
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v43 : BitVec 32 := Scalar.muli v11 c1_i32_29
  let v44 : BitVec 32 := Scalar.addi v42 v43
  v44.toNat
def k0_dev4 (d0 : Dev nD) : Nat :=
  let c0_i32_32 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_31 : BitVec 32 := 4#32
  let v45 : BitVec 32 := Scalar.muli v12 c4_i32_31
  let v46 : BitVec 32 := Scalar.addi c0_i32_32 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v47 : BitVec 32 := Scalar.muli v5 c2_i32_33
  let v48 : BitVec 32 := Scalar.addi v46 v47
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_34 : BitVec 32 := 1#32
  let v49 : BitVec 32 := Scalar.muli v13 c1_i32_34
  let v50 : BitVec 32 := Scalar.addi v48 v49
  v50.toNat
def k0_dev5 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v69 : BitVec 32 := Scalar.muli v2 c4_i32_57
  let v70 : BitVec 32 := Scalar.addi c0_i32_58 v69
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_59 : BitVec 32 := 2#32
  let v71 : BitVec 32 := Scalar.muli v9 c2_i32_59
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v73 : BitVec 32 := Scalar.muli v8 c1_i32_60
  let v74 : BitVec 32 := Scalar.addi v72 v73
  v74.toNat
def k0_dev6 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v101 : BitVec 32 := Scalar.muli v2 c4_i32_90
  let v102 : BitVec 32 := Scalar.addi c0_i32_91 v101
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v103 : BitVec 32 := Scalar.muli v9 c2_i32_92
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v105 : BitVec 32 := Scalar.muli v8 c1_i32_93
  let v106 : BitVec 32 := Scalar.addi v104 v105
  v106.toNat
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v133 : BitVec 32 := Scalar.muli v2 c4_i32_122
  let v134 : BitVec 32 := Scalar.addi c0_i32_123 v133
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_124 : BitVec 32 := 2#32
  let v135 : BitVec 32 := Scalar.muli v9 c2_i32_124
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v137 : BitVec 32 := Scalar.muli v8 c1_i32_125
  let v138 : BitVec 32 := Scalar.addi v136 v137
  v138.toNat
def k0_dev8 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v165 : BitVec 32 := Scalar.muli v2 c4_i32_153
  let v166 : BitVec 32 := Scalar.addi c0_i32_154 v165
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_155 : BitVec 32 := 2#32
  let v167 : BitVec 32 := Scalar.muli v9 c2_i32_155
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v169 : BitVec 32 := Scalar.muli v8 c1_i32_156
  let v170 : BitVec 32 := Scalar.addi v168 v169
  v170.toNat
def k0_off1 (d0 : Dev nD) (c0_i32_163 : BitVec 32) : Fin 3 → Nat :=
  let c0_194 : Index := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c128_i32 : BitVec 32 := 128#32
  let v179 : BitVec 32 := Scalar.muli v15 c128_i32
  let v180 : BitVec 32 := Scalar.addi v179 c0_i32_163
  let v207 : Index := Scalar.indexCast v180
  let c0_195 : Index := 0#32
  ![0, v207.toNat, 0]
def k0_off2 (d0 : Dev nD) (c0_i32_163 : BitVec 32) : Fin 3 → Nat :=
  let c1_204 : Index := 1#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c128_i32 : BitVec 32 := 128#32
  let v179 : BitVec 32 := Scalar.muli v15 c128_i32
  let v180 : BitVec 32 := Scalar.addi v179 c0_i32_163
  let v219 : Index := Scalar.indexCast v180
  let c0_205 : Index := 0#32
  ![1, v219.toNat, 0]
def k0_off3 (d0 : Dev nD) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c0_i32_212 : BitVec 32 := 0#32
  ![v15.toNat, 0]
def k0_off4 (d0 : Dev nD) : Fin 5 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c0_i32_211 : BitVec 32 := 0#32
  let c0_i32_219 : BitVec 32 := 0#32
  let c0_i32_220 : BitVec 32 := 0#32
  let c0_i32_221 : BitVec 32 := 0#32
  ![v15.toNat, 0, 0, 0, 0]
def k0_dev9 (d0 : Dev nD) : Nat :=
  let c0_i32_216 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_215 : BitVec 32 := 4#32
  let v227 : BitVec 32 := Scalar.muli v10 c4_i32_215
  let v228 : BitVec 32 := Scalar.addi c0_i32_216 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v229 : BitVec 32 := Scalar.muli v5 c2_i32_217
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v231 : BitVec 32 := Scalar.muli v8 c1_i32_218
  let v232 : BitVec 32 := Scalar.addi v230 v231
  v232.toNat
def k0_dev10 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v241 : BitVec 32 := Scalar.muli v2 c4_i32_230
  let v242 : BitVec 32 := Scalar.addi c0_i32_231 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_232 : BitVec 32 := 2#32
  let v243 : BitVec 32 := Scalar.muli v5 c2_i32_232
  let v244 : BitVec 32 := Scalar.addi v242 v243
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_233 : BitVec 32 := 1#32
  let v245 : BitVec 32 := Scalar.muli v11 c1_i32_233
  let v246 : BitVec 32 := Scalar.addi v244 v245
  v246.toNat
def k0_dev11 (d0 : Dev nD) : Nat :=
  let c0_i32_246 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_245 : BitVec 32 := 4#32
  let v255 : BitVec 32 := Scalar.muli v12 c4_i32_245
  let v256 : BitVec 32 := Scalar.addi c0_i32_246 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v257 : BitVec 32 := Scalar.muli v5 c2_i32_247
  let v258 : BitVec 32 := Scalar.addi v256 v257
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_248 : BitVec 32 := 1#32
  let v259 : BitVec 32 := Scalar.muli v13 c1_i32_248
  let v260 : BitVec 32 := Scalar.addi v258 v259
  v260.toNat
def k0_off5 (d0 : Dev nD) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c1_i32_304 : BitVec 32 := 1#32
  ![v15.toNat, 1]
def k0_off6 (d0 : Dev nD) : Fin 5 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c1_i32_303 : BitVec 32 := 1#32
  let c0_i32_311 : BitVec 32 := 0#32
  let c0_i32_312 : BitVec 32 := 0#32
  let c0_i32_313 : BitVec 32 := 0#32
  ![v15.toNat, 1, 0, 0, 0]
def k0_dev12 (d0 : Dev nD) : Nat :=
  let c0_i32_308 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_307 : BitVec 32 := 4#32
  let v317 : BitVec 32 := Scalar.muli v10 c4_i32_307
  let v318 : BitVec 32 := Scalar.addi c0_i32_308 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v319 : BitVec 32 := Scalar.muli v5 c2_i32_309
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v321 : BitVec 32 := Scalar.muli v8 c1_i32_310
  let v322 : BitVec 32 := Scalar.addi v320 v321
  v322.toNat
def k0_dev13 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v331 : BitVec 32 := Scalar.muli v2 c4_i32_322
  let v332 : BitVec 32 := Scalar.addi c0_i32_323 v331
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v333 : BitVec 32 := Scalar.muli v5 c2_i32_324
  let v334 : BitVec 32 := Scalar.addi v332 v333
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_325 : BitVec 32 := 1#32
  let v335 : BitVec 32 := Scalar.muli v11 c1_i32_325
  let v336 : BitVec 32 := Scalar.addi v334 v335
  v336.toNat
def k0_dev14 (d0 : Dev nD) : Nat :=
  let c0_i32_338 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_337 : BitVec 32 := 4#32
  let v345 : BitVec 32 := Scalar.muli v12 c4_i32_337
  let v346 : BitVec 32 := Scalar.addi c0_i32_338 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_339 : BitVec 32 := 2#32
  let v347 : BitVec 32 := Scalar.muli v5 c2_i32_339
  let v348 : BitVec 32 := Scalar.addi v346 v347
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_340 : BitVec 32 := 1#32
  let v349 : BitVec 32 := Scalar.muli v13 c1_i32_340
  let v350 : BitVec 32 := Scalar.addi v348 v349
  v350.toNat
def k0_off7 (d0 : Dev nD) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c2_i32_396 : BitVec 32 := 2#32
  ![v15.toNat, 2]
def k0_off8 (d0 : Dev nD) : Fin 5 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c2_i32_395 : BitVec 32 := 2#32
  let c0_i32_403 : BitVec 32 := 0#32
  let c0_i32_404 : BitVec 32 := 0#32
  let c0_i32_405 : BitVec 32 := 0#32
  ![v15.toNat, 2, 0, 0, 0]
def k0_dev15 (d0 : Dev nD) : Nat :=
  let c0_i32_400 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_399 : BitVec 32 := 4#32
  let v407 : BitVec 32 := Scalar.muli v10 c4_i32_399
  let v408 : BitVec 32 := Scalar.addi c0_i32_400 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v409 : BitVec 32 := Scalar.muli v5 c2_i32_401
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v411 : BitVec 32 := Scalar.muli v8 c1_i32_402
  let v412 : BitVec 32 := Scalar.addi v410 v411
  v412.toNat
def k0_dev16 (d0 : Dev nD) : Nat :=
  let c0_i32_415 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_414 : BitVec 32 := 4#32
  let v421 : BitVec 32 := Scalar.muli v2 c4_i32_414
  let v422 : BitVec 32 := Scalar.addi c0_i32_415 v421
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v423 : BitVec 32 := Scalar.muli v5 c2_i32_416
  let v424 : BitVec 32 := Scalar.addi v422 v423
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_417 : BitVec 32 := 1#32
  let v425 : BitVec 32 := Scalar.muli v11 c1_i32_417
  let v426 : BitVec 32 := Scalar.addi v424 v425
  v426.toNat
def k0_dev17 (d0 : Dev nD) : Nat :=
  let c0_i32_430 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_429 : BitVec 32 := 4#32
  let v435 : BitVec 32 := Scalar.muli v12 c4_i32_429
  let v436 : BitVec 32 := Scalar.addi c0_i32_430 v435
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_431 : BitVec 32 := 2#32
  let v437 : BitVec 32 := Scalar.muli v5 c2_i32_431
  let v438 : BitVec 32 := Scalar.addi v436 v437
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_432 : BitVec 32 := 1#32
  let v439 : BitVec 32 := Scalar.muli v13 c1_i32_432
  let v440 : BitVec 32 := Scalar.addi v438 v439
  v440.toNat
def k0_off9 (d0 : Dev nD) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c3_i32_488 : BitVec 32 := 3#32
  ![v15.toNat, 3]
def k0_off10 (d0 : Dev nD) : Fin 5 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c3_i32_487 : BitVec 32 := 3#32
  let c0_i32_495 : BitVec 32 := 0#32
  let c0_i32_496 : BitVec 32 := 0#32
  let c0_i32_497 : BitVec 32 := 0#32
  ![v15.toNat, 3, 0, 0, 0]
def k0_dev18 (d0 : Dev nD) : Nat :=
  let c0_i32_492 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_491 : BitVec 32 := 4#32
  let v497 : BitVec 32 := Scalar.muli v10 c4_i32_491
  let v498 : BitVec 32 := Scalar.addi c0_i32_492 v497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_493 : BitVec 32 := 2#32
  let v499 : BitVec 32 := Scalar.muli v5 c2_i32_493
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_494 : BitVec 32 := 1#32
  let v501 : BitVec 32 := Scalar.muli v8 c1_i32_494
  let v502 : BitVec 32 := Scalar.addi v500 v501
  v502.toNat
def k0_dev19 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_506 : BitVec 32 := 4#32
  let v511 : BitVec 32 := Scalar.muli v2 c4_i32_506
  let v512 : BitVec 32 := Scalar.addi c0_i32_507 v511
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_508 : BitVec 32 := 2#32
  let v513 : BitVec 32 := Scalar.muli v5 c2_i32_508
  let v514 : BitVec 32 := Scalar.addi v512 v513
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_509 : BitVec 32 := 1#32
  let v515 : BitVec 32 := Scalar.muli v11 c1_i32_509
  let v516 : BitVec 32 := Scalar.addi v514 v515
  v516.toNat
def k0_dev20 (d0 : Dev nD) : Nat :=
  let c0_i32_522 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_521 : BitVec 32 := 4#32
  let v525 : BitVec 32 := Scalar.muli v12 c4_i32_521
  let v526 : BitVec 32 := Scalar.addi c0_i32_522 v525
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_523 : BitVec 32 := 2#32
  let v527 : BitVec 32 := Scalar.muli v5 c2_i32_523
  let v528 : BitVec 32 := Scalar.addi v526 v527
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_524 : BitVec 32 := 1#32
  let v529 : BitVec 32 := Scalar.muli v13 c1_i32_524
  let v530 : BitVec 32 := Scalar.addi v528 v529
  v530.toNat
def k0_off11 (d0 : Dev nD) : Fin 2 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_533 : BitVec 32 := 0#32
  ![v18.toNat, 0]
def k0_off12 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_532 : BitVec 32 := 0#32
  let c0_i32_540 : BitVec 32 := 0#32
  let c0_i32_541 : BitVec 32 := 0#32
  let c0_i32_542 : BitVec 32 := 0#32
  ![v18.toNat, 0, 0, 0, 0]
def k0_off13 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v551 : Index := Scalar.indexCast v18
  let c0_546 : Index := 0#32
  let c0_547 : Index := 0#32
  let c0_548 : Index := 0#32
  let c0_549 : Index := 0#32
  ![v551.toNat, 0, 0, 0, 0]
def k0_off14 (d0 : Dev nD) (c0_i32_551 : BitVec 32) : Fin 3 → Nat :=
  let c0_552 : Index := 0#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c128_i32_550 : BitVec 32 := 128#32
  let v555 : BitVec 32 := Scalar.muli v18 c128_i32_550
  let v556 : BitVec 32 := Scalar.addi v555 c0_i32_551
  let v557 : Index := Scalar.indexCast v556
  let c0_553 : Index := 0#32
  ![0, v557.toNat, 0]
def k0_off15 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v561 : Index := Scalar.indexCast v18
  let c0_554 : Index := 0#32
  let c1_555 : Index := 1#32
  let c0_556 : Index := 0#32
  let c0_557 : Index := 0#32
  ![v561.toNat, 0, 1, 0, 0]
def k0_off16 (d0 : Dev nD) (c0_i32_559 : BitVec 32) : Fin 3 → Nat :=
  let c1_560 : Index := 1#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c128_i32_558 : BitVec 32 := 128#32
  let v565 : BitVec 32 := Scalar.muli v18 c128_i32_558
  let v566 : BitVec 32 := Scalar.addi v565 c0_i32_559
  let v567 : Index := Scalar.indexCast v566
  let c0_561 : Index := 0#32
  ![1, v567.toNat, 0]
def k0_off17 (d0 : Dev nD) : Fin 2 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1_i32_564 : BitVec 32 := 1#32
  ![v18.toNat, 1]
def k0_off18 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1_i32_563 : BitVec 32 := 1#32
  let c0_i32_571 : BitVec 32 := 0#32
  let c0_i32_572 : BitVec 32 := 0#32
  let c0_i32_573 : BitVec 32 := 0#32
  ![v18.toNat, 1, 0, 0, 0]
def k0_off19 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v583 : Index := Scalar.indexCast v18
  let c1_577 : Index := 1#32
  let c0_578 : Index := 0#32
  let c0_579 : Index := 0#32
  let c0_580 : Index := 0#32
  ![v583.toNat, 1, 0, 0, 0]
def k0_off20 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v593 : Index := Scalar.indexCast v18
  let c1_585 : Index := 1#32
  let c1_586 : Index := 1#32
  let c0_587 : Index := 0#32
  let c0_588 : Index := 0#32
  ![v593.toNat, 1, 1, 0, 0]
def k0_off21 (d0 : Dev nD) : Fin 2 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c2_i32_595 : BitVec 32 := 2#32
  ![v18.toNat, 2]
def k0_off22 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c2_i32_594 : BitVec 32 := 2#32
  let c0_i32_602 : BitVec 32 := 0#32
  let c0_i32_603 : BitVec 32 := 0#32
  let c0_i32_604 : BitVec 32 := 0#32
  ![v18.toNat, 2, 0, 0, 0]
def k0_off23 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v615 : Index := Scalar.indexCast v18
  let c2_608 : Index := 2#32
  let c0_609 : Index := 0#32
  let c0_610 : Index := 0#32
  let c0_611 : Index := 0#32
  ![v615.toNat, 2, 0, 0, 0]
def k0_off24 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v625 : Index := Scalar.indexCast v18
  let c2_616 : Index := 2#32
  let c1_617 : Index := 1#32
  let c0_618 : Index := 0#32
  let c0_619 : Index := 0#32
  ![v625.toNat, 2, 1, 0, 0]
def k0_off25 (d0 : Dev nD) : Fin 2 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c3_i32_626 : BitVec 32 := 3#32
  ![v18.toNat, 3]
def k0_off26 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c3_i32_625 : BitVec 32 := 3#32
  let c0_i32_633 : BitVec 32 := 0#32
  let c0_i32_634 : BitVec 32 := 0#32
  let c0_i32_635 : BitVec 32 := 0#32
  ![v18.toNat, 3, 0, 0, 0]
def k0_off27 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v647 : Index := Scalar.indexCast v18
  let c3_639 : Index := 3#32
  let c0_640 : Index := 0#32
  let c0_641 : Index := 0#32
  let c0_642 : Index := 0#32
  ![v647.toNat, 3, 0, 0, 0]
def k0_off28 (d0 : Dev nD) : Fin 5 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_9 v2
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let v657 : Index := Scalar.indexCast v18
  let c3_647 : Index := 3#32
  let c1_648 : Index := 1#32
  let c0_649 : Index := 0#32
  let c0_650 : Index := 0#32
  ![v657.toNat, 3, 1, 0, 0]
def k0_off29 (d0 : Dev nD) : Fin 2 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c0_i32_657 : BitVec 32 := 0#32
  ![v21.toNat, 0]
def k0_off30 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c0_i32_656 : BitVec 32 := 0#32
  let c0_i32_664 : BitVec 32 := 0#32
  let c0_i32_665 : BitVec 32 := 0#32
  let c0_i32_666 : BitVec 32 := 0#32
  ![v21.toNat, 0, 0, 0, 0]
def k0_off31 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v679 : Index := Scalar.indexCast v21
  let c0_670 : Index := 0#32
  let c0_671 : Index := 0#32
  let c0_672 : Index := 0#32
  let c0_673 : Index := 0#32
  ![v679.toNat, 0, 0, 0, 0]
def k0_off32 (d0 : Dev nD) (c0_i32_675 : BitVec 32) : Fin 3 → Nat :=
  let c0_676 : Index := 0#32
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c128_i32_674 : BitVec 32 := 128#32
  let v683 : BitVec 32 := Scalar.muli v21 c128_i32_674
  let v684 : BitVec 32 := Scalar.addi v683 c0_i32_675
  let v685 : Index := Scalar.indexCast v684
  let c0_677 : Index := 0#32
  ![0, v685.toNat, 0]
def k0_off33 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v689 : Index := Scalar.indexCast v21
  let c0_678 : Index := 0#32
  let c1_679 : Index := 1#32
  let c0_680 : Index := 0#32
  let c0_681 : Index := 0#32
  ![v689.toNat, 0, 1, 0, 0]
def k0_off34 (d0 : Dev nD) (c0_i32_683 : BitVec 32) : Fin 3 → Nat :=
  let c1_684 : Index := 1#32
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c128_i32_682 : BitVec 32 := 128#32
  let v693 : BitVec 32 := Scalar.muli v21 c128_i32_682
  let v694 : BitVec 32 := Scalar.addi v693 c0_i32_683
  let v695 : Index := Scalar.indexCast v694
  let c0_685 : Index := 0#32
  ![1, v695.toNat, 0]
def k0_off35 (d0 : Dev nD) : Fin 2 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c1_i32_688 : BitVec 32 := 1#32
  ![v21.toNat, 1]
def k0_off36 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c1_i32_687 : BitVec 32 := 1#32
  let c0_i32_695 : BitVec 32 := 0#32
  let c0_i32_696 : BitVec 32 := 0#32
  let c0_i32_697 : BitVec 32 := 0#32
  ![v21.toNat, 1, 0, 0, 0]
def k0_off37 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v711 : Index := Scalar.indexCast v21
  let c1_701 : Index := 1#32
  let c0_702 : Index := 0#32
  let c0_703 : Index := 0#32
  let c0_704 : Index := 0#32
  ![v711.toNat, 1, 0, 0, 0]
def k0_off38 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v721 : Index := Scalar.indexCast v21
  let c1_709 : Index := 1#32
  let c1_710 : Index := 1#32
  let c0_711 : Index := 0#32
  let c0_712 : Index := 0#32
  ![v721.toNat, 1, 1, 0, 0]
def k0_off39 (d0 : Dev nD) : Fin 2 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c2_i32_719 : BitVec 32 := 2#32
  ![v21.toNat, 2]
def k0_off40 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c2_i32_718 : BitVec 32 := 2#32
  let c0_i32_726 : BitVec 32 := 0#32
  let c0_i32_727 : BitVec 32 := 0#32
  let c0_i32_728 : BitVec 32 := 0#32
  ![v21.toNat, 2, 0, 0, 0]
def k0_off41 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v743 : Index := Scalar.indexCast v21
  let c2_732 : Index := 2#32
  let c0_733 : Index := 0#32
  let c0_734 : Index := 0#32
  let c0_735 : Index := 0#32
  ![v743.toNat, 2, 0, 0, 0]
def k0_off42 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v753 : Index := Scalar.indexCast v21
  let c2_740 : Index := 2#32
  let c1_741 : Index := 1#32
  let c0_742 : Index := 0#32
  let c0_743 : Index := 0#32
  ![v753.toNat, 2, 1, 0, 0]
def k0_off43 (d0 : Dev nD) : Fin 2 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c3_i32_750 : BitVec 32 := 3#32
  ![v21.toNat, 3]
def k0_off44 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c3_i32_749 : BitVec 32 := 3#32
  let c0_i32_757 : BitVec 32 := 0#32
  let c0_i32_758 : BitVec 32 := 0#32
  let c0_i32_759 : BitVec 32 := 0#32
  ![v21.toNat, 3, 0, 0, 0]
def k0_off45 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v775 : Index := Scalar.indexCast v21
  let c3_763 : Index := 3#32
  let c0_764 : Index := 0#32
  let c0_765 : Index := 0#32
  let c0_766 : Index := 0#32
  ![v775.toNat, 3, 0, 0, 0]
def k0_off46 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let v785 : Index := Scalar.indexCast v21
  let c3_771 : Index := 3#32
  let c1_772 : Index := 1#32
  let c0_773 : Index := 0#32
  let c0_774 : Index := 0#32
  ![v785.toNat, 3, 1, 0, 0]
def k0_off47 (d0 : Dev nD) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c0_i32_781 : BitVec 32 := 0#32
  ![v25.toNat, 0]
def k0_off48 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c0_i32_780 : BitVec 32 := 0#32
  let c0_i32_788 : BitVec 32 := 0#32
  let c0_i32_789 : BitVec 32 := 0#32
  let c0_i32_790 : BitVec 32 := 0#32
  ![v25.toNat, 0, 0, 0, 0]
def k0_off49 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v807 : Index := Scalar.indexCast v25
  let c0_794 : Index := 0#32
  let c0_795 : Index := 0#32
  let c0_796 : Index := 0#32
  let c0_797 : Index := 0#32
  ![v807.toNat, 0, 0, 0, 0]
def k0_off50 (d0 : Dev nD) (c0_i32_799 : BitVec 32) : Fin 3 → Nat :=
  let c0_800 : Index := 0#32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c128_i32_798 : BitVec 32 := 128#32
  let v811 : BitVec 32 := Scalar.muli v25 c128_i32_798
  let v812 : BitVec 32 := Scalar.addi v811 c0_i32_799
  let v813 : Index := Scalar.indexCast v812
  let c0_801 : Index := 0#32
  ![0, v813.toNat, 0]
def k0_off51 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v817 : Index := Scalar.indexCast v25
  let c0_802 : Index := 0#32
  let c1_803 : Index := 1#32
  let c0_804 : Index := 0#32
  let c0_805 : Index := 0#32
  ![v817.toNat, 0, 1, 0, 0]
def k0_off52 (d0 : Dev nD) (c0_i32_807 : BitVec 32) : Fin 3 → Nat :=
  let c1_808 : Index := 1#32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c128_i32_806 : BitVec 32 := 128#32
  let v821 : BitVec 32 := Scalar.muli v25 c128_i32_806
  let v822 : BitVec 32 := Scalar.addi v821 c0_i32_807
  let v823 : Index := Scalar.indexCast v822
  let c0_809 : Index := 0#32
  ![1, v823.toNat, 0]
def k0_off53 (d0 : Dev nD) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c1_i32_812 : BitVec 32 := 1#32
  ![v25.toNat, 1]
def k0_off54 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c1_i32_811 : BitVec 32 := 1#32
  let c0_i32_819 : BitVec 32 := 0#32
  let c0_i32_820 : BitVec 32 := 0#32
  let c0_i32_821 : BitVec 32 := 0#32
  ![v25.toNat, 1, 0, 0, 0]
def k0_off55 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v839 : Index := Scalar.indexCast v25
  let c1_825 : Index := 1#32
  let c0_826 : Index := 0#32
  let c0_827 : Index := 0#32
  let c0_828 : Index := 0#32
  ![v839.toNat, 1, 0, 0, 0]
def k0_off56 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v849 : Index := Scalar.indexCast v25
  let c1_833 : Index := 1#32
  let c1_834 : Index := 1#32
  let c0_835 : Index := 0#32
  let c0_836 : Index := 0#32
  ![v849.toNat, 1, 1, 0, 0]
def k0_off57 (d0 : Dev nD) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c2_i32_843 : BitVec 32 := 2#32
  ![v25.toNat, 2]
def k0_off58 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c2_i32_842 : BitVec 32 := 2#32
  let c0_i32_850 : BitVec 32 := 0#32
  let c0_i32_851 : BitVec 32 := 0#32
  let c0_i32_852 : BitVec 32 := 0#32
  ![v25.toNat, 2, 0, 0, 0]
def k0_off59 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v871 : Index := Scalar.indexCast v25
  let c2_856 : Index := 2#32
  let c0_857 : Index := 0#32
  let c0_858 : Index := 0#32
  let c0_859 : Index := 0#32
  ![v871.toNat, 2, 0, 0, 0]
def k0_off60 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v881 : Index := Scalar.indexCast v25
  let c2_864 : Index := 2#32
  let c1_865 : Index := 1#32
  let c0_866 : Index := 0#32
  let c0_867 : Index := 0#32
  ![v881.toNat, 2, 1, 0, 0]
def k0_off61 (d0 : Dev nD) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c3_i32_874 : BitVec 32 := 3#32
  ![v25.toNat, 3]
def k0_off62 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c3_i32_873 : BitVec 32 := 3#32
  let c0_i32_881 : BitVec 32 := 0#32
  let c0_i32_882 : BitVec 32 := 0#32
  let c0_i32_883 : BitVec 32 := 0#32
  ![v25.toNat, 3, 0, 0, 0]
def k0_off63 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v903 : Index := Scalar.indexCast v25
  let c3_887 : Index := 3#32
  let c0_888 : Index := 0#32
  let c0_889 : Index := 0#32
  let c0_890 : Index := 0#32
  ![v903.toNat, 3, 0, 0, 0]
def k0_off64 (d0 : Dev nD) : Fin 5 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let v913 : Index := Scalar.indexCast v25
  let c3_895 : Index := 3#32
  let c1_896 : Index := 1#32
  let c0_897 : Index := 0#32
  let c0_898 : Index := 0#32
  ![v913.toNat, 3, 1, 0, 0]
abbrev stage0_0 : Fin 1 → Memref sig .tc .vmem S2x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Base.lean ====
/-
  The exchange's fixed data: the mesh neighbours of a device, the semaphore cells, the pieces of the
  VMEM buffers that travel between devices, and the contents every buffer holds once it is filled.

  A device is numbered `4·x + 2·y + z` on the 2×2×2 mesh.  Its ROW INDEX is `2·x + z`: the four devices
  of one `y` hold the four row blocks of that half of the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Tactic
public import Idealize.ShloMosaic.Lib.ValueIdxCore
public import Idealize.ShloMosaic.Lib.Pipeline.Regions
public import Idealize.ShloMosaic.Lib.Pipeline.Kit
public import Idealize.ShloMosaic.Lib.Pipeline.RegionTalk

@[expose] public section

set_option maxRecDepth 16384

noncomputable section

namespace Cert.KernelIdeal.Swap

open Idealize.ShloMosaic Idealize.ShloMosaic.TcCoe Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The four neighbours a device talks to: across `y`, across `x`, across `z`, and across both `x` and `z`. -/
def nb (j : Fin 4) (c : Dev nD) : Dev nD := (![![2, 3, 0, 1, 6, 7, 4, 5], ![4, 5, 6, 7, 0, 1, 2, 3], ![1, 0, 3, 2, 5, 4, 7, 6], ![5, 4, 7, 6, 1, 0, 3, 2]] j) c

/-- Being neighbours is mutual. -/
theorem nb_nb (j : Fin 4) (c : Dev nD) : nb j (nb j c) = c := by revert j c; decide

/-- A device's row index, `2·x + z`. -/
def ri (c : Dev nD) : Fin 4 := (![0, 1, 0, 1, 2, 3, 2, 3] : Fin 8 → Fin 4) c

/-- The device of the same `y` with row index `r`. -/
def own (c : Dev nD) (r : Fin 4) : Dev nD :=
  (![![0, 1, 4, 5], ![0, 1, 4, 5], ![2, 3, 6, 7], ![2, 3, 6, 7], ![0, 1, 4, 5], ![0, 1, 4, 5], ![2, 3, 6, 7], ![2, 3, 6, 7]] : Fin 8 → Fin 4 → Fin 8) c r

theorem own_ri (c : Dev nD) : own c (ri c) = c := by revert c; decide
/-- A neighbour in the same half is the owner of its row index there. -/
theorem own_nb (j : Fin 4) (hj : j ≠ 0) (c : Dev nD) : own (nb j c) (ri c) = c := by revert j c; decide
theorem own_nb' (j : Fin 4) (hj : j ≠ 0) (c : Dev nD) : own c (ri (nb j c)) = nb j c := by revert j c; decide
theorem ri_nb_ne (j : Fin 4) (hj : j ≠ 0) (c : Dev nD) : ri (nb j c) ≠ ri c := by revert j c; decide

/-! ## The semaphore cells -/

/-- The barrier semaphore. -/
abbrev barS : Sem sig := sig.barrier 0 rfl
abbrev barCell (c : Dev nD) : GSem nD τ sig := ((c : Thread nD τ), .reg barS)

/-- DMA semaphore `s` of group `g`: group 0 the staging semaphores, 1 the sends across `y`, 2 the receipts across `y`,
    3 to 5 the sends to the three other neighbours, 6 to 9 the receipts by row index. -/
def dIx (g : Fin 10) (s : Fin 4) : DmaSem sig := (⟨4 * g.val + s.val, by omega⟩ : Fin 40)
abbrev dCell (c : Dev nD) (g : Fin 10) (s : Fin 4) : GSem nD τ sig := ((c : Thread nD τ), .dma (dIx g s))

theorem dIx_inj {g g' : Fin 10} {s s' : Fin 4} (h : dIx g s = dIx g' s') : g = g' ∧ s = s' := by
  have := congrArg Fin.val h
  simp only [dIx] at this
  exact ⟨Fin.ext (by omega), Fin.ext (by omega)⟩

/-- The group and the index in its group of a DMA semaphore. -/
def grpOf (i : DmaSem sig) : Fin 10 := ⟨i.val / 4, by have : i.val < 40 := i.isLt; omega⟩
def idxOf (i : DmaSem sig) : Fin 4 := ⟨i.val % 4, by omega⟩
@[simp] theorem grpOf_dIx (g : Fin 10) (s : Fin 4) : grpOf (dIx g s) = g := Fin.ext (by simp only [grpOf, dIx]; omega)
@[simp] theorem idxOf_dIx (g : Fin 10) (s : Fin 4) : idxOf (dIx g s) = s := Fin.ext (by simp only [idxOf, dIx]; omega)

/-- The group of the receipts of row index `r`, and of the sends to neighbour `j`. -/
def rg (r : Fin 4) : Fin 10 := ⟨6 + r.val, by omega⟩
def sg (j : Fin 4) : Fin 10 := ⟨2 + j.val, by omega⟩

/-! ## The pieces of the exchange buffers -/

/-- Piece `s` of a four-piece buffer, and the halves of it. -/
def slot4 (s : Fin 4) : Finset S4x2x32x2048.Idx := Finset.univ.filter fun i => (i 0).val = s.val
/-- Piece `s` of row block `r` of the gather buffer. -/
def slot44 (r s : Fin 4) : Finset S4x4x2x32x2048.Idx := Finset.univ.filter fun i => (i 0).val = r.val ∧ (i 1).val = s.val

theorem mem_slot4 {s : Fin 4} {i : S4x2x32x2048.Idx} : i ∈ slot4 s ↔ i 0 = s := by simp only [slot4, Finset.mem_filter, Finset.mem_univ, true_and]; exact Fin.ext_iff.symm
theorem mem_slot44 {r s : Fin 4} {i : S4x4x2x32x2048.Idx} : i ∈ slot44 r s ↔ i 0 = r ∧ i 1 = s := by
  simp only [slot44, Finset.mem_filter, Finset.mem_univ, true_and]; exact and_congr Fin.ext_iff.symm Fin.ext_iff.symm

theorem inb4 (s : Fin 4) : ∀ a, (![s.val, 0, 0, 0] : Fin 4 → ℕ) a + S1x2x32x2048.size a ≤ S4x2x32x2048.size a := by
  revert s; decide
theorem inb4b (s : Fin 4) (b : Fin 2) : ∀ a, (![s.val, b.val, 0, 0] : Fin 4 → ℕ) a + S1x1x32x2048.size a ≤ S4x2x32x2048.size a := by
  revert s b; decide
theorem inb44 (r s : Fin 4) : ∀ a, (![r.val, s.val, 0, 0, 0] : Fin 5 → ℕ) a + S1x1x2x32x2048.size a ≤ S4x4x2x32x2048.size a := by
  revert r s; decide
theorem inb44b (r s : Fin 4) (b : Fin 2) : ∀ a, (![r.val, s.val, b.val, 0, 0] : Fin 5 → ℕ) a + S1x1x1x32x2048.size a ≤ S4x4x2x32x2048.size a := by
  revert r s b; decide
theorem inbO (s : Fin 4) (b : Fin 2) : ∀ a, (![b.val, 32 * s.val, 0] : Fin 3 → ℕ) a + S1x32x1024.size a ≤ S2x128x1024.size a := by
  revert s b; decide
theorem inbR (k : Fin 16) (b : Fin 2) : ∀ a, (![b.val, 32 * k.val, 0] : Fin 3 → ℕ) a + S1x32x2048.size a ≤ S2x512x2048.size a := by
  revert k b; decide

/-- The rectangles the kernel loads and stores through. -/
abbrev rect4 (s : Fin 4) (b : Fin 2) : Rect S4x2x32x2048 := Rect.unit (s := S4x2x32x2048) ![s.val, b.val, 0, 0] S1x1x32x2048.size (inb4b s b)
abbrev rect44 (r s : Fin 4) (b : Fin 2) : Rect S4x4x2x32x2048 :=
  Rect.unit (s := S4x4x2x32x2048) ![r.val, s.val, b.val, 0, 0] S1x1x1x32x2048.size (inb44b r s b)
abbrev rectO (s : Fin 4) (b : Fin 2) : Rect S2x128x1024 := Rect.unit (s := S2x128x1024) ![b.val, 32 * s.val, 0] S1x32x1024.size (inbO s b)
abbrev rectR (k : Fin 16) (b : Fin 2) : Rect S2x512x2048 := Rect.unit (s := S2x512x2048) ![b.val, 32 * k.val, 0] S1x32x2048.size (inbR k b)

theorem mem_rect4 {s : Fin 4} {b : Fin 2} {i : S4x2x32x2048.Idx} : i ∈ (rect4 s b).set ↔ i 0 = s ∧ i 1 = b := by
  rw [Rect.mem_set_unit]
  constructor
  · intro h
    have h0 := h 0; have h1 := h 1
    simp at h0 h1
    exact ⟨Fin.ext (by omega), Fin.ext (by omega)⟩
  · rintro ⟨h0, h1⟩ a
    have e0 := congrArg Fin.val h0; have e1 := congrArg Fin.val h1
    have l2 : (i 2).val < 32 := (i 2).isLt
    have l3 : (i 3).val < 2048 := (i 3).isLt
    match a with
    | ⟨0, _⟩ => simp at e0 ⊢; omega
    | ⟨1, _⟩ => simp at e1 ⊢; omega
    | ⟨2, _⟩ => simp; omega
    | ⟨3, _⟩ => simp; omega

theorem mem_rect44 {r s : Fin 4} {b : Fin 2} {i : S4x4x2x32x2048.Idx} : i ∈ (rect44 r s b).set ↔ i 0 = r ∧ i 1 = s ∧ i 2 = b := by
  rw [Rect.mem_set_unit]
  constructor
  · intro h
    have h0 := h 0; have h1 := h 1; have h2 := h 2
    simp at h0 h1 h2
    exact ⟨Fin.ext (by omega), Fin.ext (by omega), Fin.ext (by omega)⟩
  · rintro ⟨h0, h1, h2⟩ a
    have e0 := congrArg Fin.val h0; have e1 := congrArg Fin.val h1; have e2 := congrArg Fin.val h2
    have l2 : (i 3).val < 32 := (i 3).isLt
    have l3 : (i 4).val < 2048 := (i 4).isLt
    match a with
    | ⟨0, _⟩ => simp at e0 ⊢; omega
    | ⟨1, _⟩ => simp at e1 ⊢; omega
    | ⟨2, _⟩ => simp at e2 ⊢; omega
    | ⟨3, _⟩ => simp; omega
    | ⟨4, _⟩ => simp; omega

theorem mem_rectR {k : Fin 16} {b : Fin 2} {i : S2x512x2048.Idx} : i ∈ (rectR k b).set ↔ i 0 = b ∧ (i 1).val / 32 = k.val := by
  rw [Rect.mem_set_unit]
  constructor
  · intro h
    have h0 := h 0; have h1 := h 1
    simp at h0 h1
    exact ⟨Fin.ext (by omega), (by omega)⟩
  · rintro ⟨h0, h1⟩ a
    have e0 := congrArg Fin.val h0
    have l3 : (i 2).val < 2048 := (i 2).isLt
    match a with
    | ⟨0, _⟩ => simp at e0 ⊢; omega
    | ⟨1, _⟩ => simp; omega
    | ⟨2, _⟩ => simp; omega

/-! ## The contents -/

/-- What the region finds on each device: the peer's rows and the own rows of the attention output, and the weight block. -/
structure Ins (F : FTy → Type) where
  peer : Dev nD → S2x128x1024.Idx → Elt F .f32
  mine : Dev nD → S2x128x1024.Idx → Elt F .f32
  wo : Dev nD → S1024x2048.Idx → Elt F .f32

variable (X : Ins F)

/-- What device `c` computes for the device across `y`. -/
def psendC (c : Dev nD) : S4x2x32x2048.Idx → Elt F .bf16 := fun i =>
  k0_pay1 (fun j => X.peer c ((rectO (i 0) (i 1)).emb j)) (X.wo c) (ix4 0 0 (i 2) (i 3))
/-- What device `c` receives across `y`. -/
def precvC (c : Dev nD) : S4x2x32x2048.Idx → Elt F .bf16 := psendC X (nb 0 c)
/-- The own product of `c` for piece `s`, half `b`. -/
def mineC (c : Dev nD) (s : Fin 4) (b : Fin 2) : FVec F S32x2048 .f32 :=
  k0_pay10 (fun j => X.mine c ((rectO s b).emb j)) (X.wo c)
/-- What device `c` sends to the three other neighbours: the sum of its own product and the received one, rounded. -/
def agsendC (c : Dev nD) : S4x2x32x2048.Idx → Elt F .bf16 := fun i =>
  k0_pay14 (mineC X c (i 0) (i 1)) (fun j => precvC X c ((rect4 (i 0) (i 1)).emb j)) (ix4 0 0 (i 2) (i 3))
/-- What device `c` holds in its gather buffer: row block `r` from the owner of that row index. -/
def agrecvC (c : Dev nD) : S4x4x2x32x2048.Idx → Elt F .bf16 := fun i => agsendC X (own c (i 0)) (ix4 (i 1) (i 2) (i 3) (i 4))

/-- The piece of the own rows the kernel writes to the result. -/
def qC (c : Dev nD) (s : Fin 4) (b : Fin 2) : FVec F S1x32x2048 .f32 :=
  k0_pay13 (mineC X c s b) (fun j => precvC X c ((rect4 s b).emb j))
/-- The piece of row block `r` the kernel writes to the result. -/
def gC (c : Dev nD) (r s : Fin 4) (b : Fin 2) : FVec F S1x32x2048 .f32 :=
  k0_pay48 (fun j => agrecvC X c ((rect44 r s b).emb j))

/-- The row block and the piece of a block of 32 rows. -/
def rOf (k : Fin 16) : Fin 4 := ⟨k.val / 4, by omega⟩
def sOf (k : Fin 16) : Fin 4 := ⟨k.val % 4, by omega⟩
def kOf (r s : Fin 4) : Fin 16 := ⟨4 * r.val + s.val, by omega⟩
@[simp] theorem rOf_kOf (r s : Fin 4) : rOf (kOf r s) = r := Fin.ext (by simp only [rOf, kOf]; omega)
@[simp] theorem sOf_kOf (r s : Fin 4) : sOf (kOf r s) = s := Fin.ext (by simp only [sOf, kOf]; omega)

/-- Piece `k`, half `b` of the result on device `c`. -/
def pieceC (c : Dev nD) (k : Fin 16) (b : Fin 2) : FVec F S1x32x2048 .f32 :=
  if rOf k = ri c then qC X c (sOf k) b else gC X c (rOf k) (sOf k) b

/-- The block of 32 rows an index of the result lies in. -/
def kAt (i : S2x512x2048.Idx) : Fin 16 := ⟨(i 1).val / 32, by have : (i 1).val < 512 := (i 1).isLt; omega⟩
def rowAt (i : S2x512x2048.Idx) : Fin 32 := ⟨(i 1).val % 32, by omega⟩

/-- The result on device `c`. -/
def outC (c : Dev nD) : S2x512x2048.Idx → Elt F .f32 := fun i => pieceC X c (kAt i) (i 0) (ix3 0 (rowAt i) (i 2))

/-! ## Filling a buffer piece by piece -/

theorem emb_rect4 (s : Fin 4) (b : Fin 2) (x : S1x1x32x2048.Idx) : (rect4 s b).emb x = ix4 s b (x 2) (x 3) := by
  have h0 : (x 0).val < 1 := (x 0).isLt
  have h1 : (x 1).val < 1 := (x 1).isLt
  funext a
  match a with
  | ⟨0, _⟩ => exact Fin.ext (by simp [LoadRect.idx]; omega)
  | ⟨1, _⟩ => exact Fin.ext (by simp; omega)
  | ⟨2, _⟩ => exact Fin.ext (by simp)
  | ⟨3, _⟩ => exact Fin.ext (by simp)

end Cert.KernelIdeal.Swap

end
-- ==== Proof.Sched.lean ====
/-
  The exchange's schedule: what each semaphore cell is paid, by whom, and what the payment hands over;
  the order of the waits; what each device owes at the start.
-/
module

public import proofs.«01_k».proof.Proof.Base

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline's copy and the exchange's, whose duties are numbered 0 to 3. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

abbrev 𝒱₀ : Variants := Variants.none

/-! ## The buffers -/

abbrev mPS : Memref sig .tc .vmem S4x2x32x2048 .bf16 := Memref.whole cc0_scratch0
abbrev mPR : Memref sig .tc .vmem S4x2x32x2048 .bf16 := Memref.whole cc0_scratch1
abbrev mAS : Memref sig .tc .vmem S4x2x32x2048 .bf16 := Memref.whole cc0_scratch2
abbrev mGR : Memref sig .tc .vmem S4x4x2x32x2048 .bf16 := Memref.whole cc0_scratch3
abbrev mP : Memref sig .tc .vmem S2x128x1024 .f32 := Memref.whole cc0_stg0_0
abbrev mM : Memref sig .tc .vmem S2x128x1024 .f32 := Memref.whole cc0_stg1_0
abbrev mW : Memref sig .tc .vmem S1024x2048 .f32 := Memref.whole cc0_stg2_0
abbrev mO : Memref sig .tc .vmem S2x512x2048 .f32 := Memref.whole cc0_stg3_0

/-- The part `S` of a whole buffer on device `c`, at share `q` and contents `f`. -/
abbrev pt {s : Shape} {e : EltTy} (c : Dev nD) (m : Memref sig .tc .vmem s e) (S : Finset (Idx (m.view.loc (c : Thread nD τ))))
    (q : PosShare TreeShare) (f : Buf (Elt F) (m.view.loc (c : Thread nD τ))) : sProp 𝕄 :=
  m.view.loc (c : Thread nD τ) ↦[S]{q} f

/-- The credit of one transfer of a piece. -/
abbrev N : ℕ := (((mPS : Memref sig .tc .vmem S4x2x32x2048 .bf16).slice (Rect.unit (s := S4x2x32x2048) ![0, 0, 0, 0] S1x2x32x2048.size (inb4 0)) (fun _ => rfl)).squeeze
  S2x32x2048 squeezes_S1x2x32x2048_S2x32x2048).view.dmaCredit
theorem N_pos : 0 < N := View.dmaCredit_pos _ (by decide)

/-- The share of a send piece each of the three sends carries away. -/
def shr (j : Fin 4) : PosShare TreeShare :=
  (![fullShare, (fullShare : PosShare TreeShare).left, (fullShare : PosShare TreeShare).right.left, (fullShare : PosShare TreeShare).right.right] : Fin 4 → PosShare TreeShare) j

/-! ## The payloads -/

variable (X : Ins F)

/-- Where the piece `s` that `c` sends to its neighbour `j` lands. -/
def land (j : Fin 4) (c : Dev nD) (s : Fin 4) : sProp 𝕄 :=
  if j = 0 then iprop((∃ f, pt (nb j c) mPR (slot4 s) fullShare f) ∗ reached ER (dCell (nb j c) 2 s) 0)
  else iprop((∃ f, pt (nb j c) mGR (slot44 (ri c) s) fullShare f) ∗ reached ER (dCell (nb j c) (rg (ri c)) s) 0)

/-- Neighbour `j`'s signal to `c`: the four places at the neighbour where the pieces of `c` land, each with word that its receipt's cell is
    ready. -/
def barPay (c : Dev nD) (j : Fin 4) : sProp 𝕄 :=
  bigSep (Finset.univ : Finset (Fin 4)) fun s => land (F := F) j c s

/-- What a transfer's end hands over, by the group of its semaphore. -/
def dmaPay (c : Dev nD) (g : Fin 10) (s : Fin 4) : sProp 𝕄 :=
  if g = 0 then iprop(emp)
  else if g = 1 then pt c mPS (slot4 s) fullShare (psendC X c)
  else if g = 2 then pt c mPR (slot4 s) fullShare (precvC X c)
  else if h : g.val < 6 then pt c mAS (slot4 s) (shr ⟨g.val - 2, by omega⟩) (agsendC X c)
  else pt c mGR (slot44 ⟨g.val - 6, by omega⟩ s) fullShare (agrecvC X c)

/-- Whether a transfer ends on this semaphore of device `c`. -/
def isDma (c : Dev nD) (g : Fin 10) : Prop := g ≠ 0 ∧ g ≠ rg (ri c)
instance (c : Dev nD) (g : Fin 10) : Decidable (isDma c g) := by unfold isDma; infer_instance

/-- One round on every cell: the barrier is signalled by the four neighbours; each transfer semaphore is credited once, those of
    the own row index and the staging ones never. -/
def sch : Rounds.Schedule (GSem nD τ sig) (Fin 4) 𝕄 where
  duties g r := if r = 0 ∧ g.1.2 = .tc then (match g.2 with | .reg _ => Finset.univ | .dma i => if isDma g.1.1 (grpOf i) then {0} else ∅) else ∅
  unitless _ := False
  amount g _ _ := match g.2 with | .reg _ => 1 | .dma _ => N
  payload g _ d := match g.2 with | .reg _ => barPay g.1.1 d | .dma i => dmaPay X g.1.1 (grpOf i) (idxOf i)
  amount_pos g _ _ _ := by
    rcases g with ⟨t, s | s⟩
    · exact Nat.one_pos
    · exact N_pos

theorem reached_storable (g : GSem nD τ sig) : BI.Storable (upEmb : UEmb _ (MT nD τ sig Unit (Elt F) ℕ UU ℕ)) (reached ER g 0) := inferInstance
theorem sep_storable {A B : sProp (MT nD τ sig Unit (Elt F) ℕ UU ℕ)} (_ : BI.Storable (upEmb : UEmb _ _) A) (_ : BI.Storable (upEmb : UEmb _ _) B) :
    BI.Storable (upEmb : UEmb _ (MT nD τ sig Unit (Elt F) ℕ UU ℕ)) iprop(A ∗ B) := inferInstance
instance land_storable (j : Fin 4) (c : Dev nD) (s : Fin 4) : BI.Storable (upEmb : UEmb _ 𝕄) (land (F := F) j c s) := by
  unfold land
  split
  · exact sep_storable inferInstance (reached_storable _)
  · exact sep_storable inferInstance (reached_storable _)
instance barPay_storable (c : Dev nD) (j : Fin 4) : BI.Storable (upEmb : UEmb _ 𝕄) (barPay (F := F) c j) := by
  unfold barPay; infer_instance
instance dmaPay_storable (c : Dev nD) (g : Fin 10) (s : Fin 4) : BI.Storable (upEmb : UEmb _ 𝕄) (dmaPay X c g s) := by
  unfold dmaPay; (repeat' split) <;> infer_instance

instance sch_storable (g : GSem nD τ sig) (r : ℕ) (d : Fin 4) : BI.Storable (upEmb : UEmb _ 𝕄) ((sch X).payload g r d) := by
  rcases g with ⟨t, s | s⟩
  · exact barPay_storable t.1 d
  · exact dmaPay_storable X t.1 (grpOf s) (idxOf s)

section Reads

variable (c : Dev nD) (g : Fin 10) (s : Fin 4) (d : Fin 4)

theorem duties_bar : (sch X).duties (barCell c) 0 = Finset.univ := rfl
theorem duties_dma (h : isDma c g) : (sch X).duties (dCell c g s) 0 = {0} := by
  show (if (0 : ℕ) = 0 ∧ (Proc.tc : Proc τ) = Proc.tc then (if isDma c (grpOf (dIx g s)) then {0} else ∅) else ∅) = _
  rw [grpOf_dIx, if_pos ⟨rfl, rfl⟩, if_pos h]
theorem duties_none (h : ¬ isDma c g) (r : ℕ) : (sch X).duties (dCell c g s) r = ∅ := by
  show (if r = 0 ∧ (Proc.tc : Proc τ) = Proc.tc then (if isDma c (grpOf (dIx g s)) then {0} else ∅) else ∅) = _
  rw [grpOf_dIx, if_neg h, ite_self]
theorem duties_later (g : GSem nD τ sig) : ∀ r, 1 ≤ r → (sch X).duties g r = ∅ :=
  fun r hr => if_neg (fun h => by omega)
theorem amount_bar : (sch X).amount (barCell c) 0 d = 1 := rfl
theorem amount_dma : (sch X).amount (dCell c g s) 0 d = N := rfl
theorem payload_bar : (sch X).payload (barCell c) 0 d = barPay c d := rfl
theorem payload_dma : (sch X).payload (dCell c g s) 0 d = dmaPay X c g s := by
  show dmaPay X c (grpOf (dIx g s)) (idxOf (dIx g s)) = _
  rw [grpOf_dIx, idxOf_dIx]
theorem expect_bar : (sch X).expect (barCell c) 0 = 4 := by
  unfold Schedule.expect Schedule.amountOf
  rw [duties_bar, Finset.sum_congr rfl (fun d _ => amount_bar X c d)]; rfl
theorem expect_dma (h : isDma c g) : (sch X).expect (dCell c g s) 0 = N := by
  unfold Schedule.expect Schedule.amountOf; rw [duties_dma X c g s h, Finset.sum_singleton, amount_dma]
theorem rest_bar : bigSep ((sch X).duties (barCell c) 0 \ ∅) (fun d => (sch X).payload (barCell c) 0 d) = bigSep Finset.univ (fun d => barPay (F := F) c d) := by
  rw [Finset.sdiff_empty, duties_bar]; rfl
theorem rest_dma (h : isDma c g) : bigSep ((sch X).duties (dCell c g s) 0 \ ∅) (fun d => (sch X).payload (dCell c g s) 0 d) = dmaPay X c g s := by
  rw [Finset.sdiff_empty, duties_dma X c g s h, bigSep_singleton, payload_dma]

theorem pay_ysend : dmaPay X c 1 s = pt c mPS (slot4 s) fullShare (psendC X c) := rfl
theorem pay_yrecv : dmaPay X c 2 s = pt c mPR (slot4 s) fullShare (precvC X c) := rfl
theorem pay_agsend (j : Fin 4) (hj : j ≠ 0) : dmaPay X c (sg j) s = pt c mAS (slot4 s) (shr j) (agsendC X c) := by
  fin_cases j
  · exact absurd rfl hj
  all_goals rfl
theorem pay_agrecv (r : Fin 4) : dmaPay X c (rg r) s = pt c mGR (slot44 r s) fullShare (agrecvC X c) := by
  fin_cases r <;> rfl

theorem isDma_one : isDma c 1 := by revert c; decide
theorem isDma_two : isDma c 2 := by revert c; decide
theorem isDma_sg (j : Fin 4) : isDma c (sg j) := by revert c j; decide
theorem isDma_rg (r : Fin 4) (h : r ≠ ri c) : isDma c (rg r) := by revert c r; decide
theorem isDma_nb (j : Fin 4) (hj : j ≠ 0) : isDma (nb j c) (rg (ri c)) := by revert c j; decide

end Reads

/-! ## What a device owes, and the levels -/

/-- The tallies of a list of payments still to be made, the next one first. -/
def owe : List (GSem nD τ sig × ℕ) → CellTallies nD τ sig Unit
  | [] => 0
  | p :: l => owe l + tallyAt p.1 () p.2

/-- The signals, the sends across `y` of the pieces in `l`, and the sends to the other three neighbours. -/
def sigs (c : Dev nD) : List (GSem nD τ sig × ℕ) := [(barCell (nb 0 c), 1), (barCell (nb 1 c), 1), (barCell (nb 2 c), 1), (barCell (nb 3 c), 1)]
def yOw (c : Dev nD) (l : List (Fin 4)) : List (GSem nD τ sig × ℕ) := l.map fun s => (dCell (nb 0 c) 2 s, N)
def aOw (c : Dev nD) : List (Fin 4) → List (GSem nD τ sig × ℕ)
  | [] => []
  | s :: l => (dCell (nb 1 c) (rg (ri c)) s, N) :: (dCell (nb 2 c) (rg (ri c)) s, N) :: (dCell (nb 3 c) (rg (ri c)) s, N) :: aOw c l
def ow₀ (c : Dev nD) : List (GSem nD τ sig × ℕ) := sigs c ++ (yOw c [0, 1, 2, 3] ++ aOw c [0, 1, 2, 3])
def O₀ (c : Dev nD) : CellTallies nD τ sig Unit := owe (ow₀ c)

def L (g : GSem nD τ sig) : Finset Unit := if g.1.2 = .tc then {()} else ∅
/-- Barrier cells at 1, the receipts across `y` at 2, those of the other neighbours at 3, the rest at 0. -/
def lv (g : GSem nD τ sig) (_ : Unit) : ℕ :=
  match g.2 with
  | .reg _ => 1
  | .dma i => if (grpOf i).val = 2 then 2 else if 6 ≤ (grpOf i).val then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (g : Fin 10) (s : Fin 4) : lv (dCell c g s) () = if g.val = 2 then 2 else if 6 ≤ g.val then 3 else 0 := by
  show (if (grpOf (dIx g s)).val = 2 then 2 else if 6 ≤ (grpOf (dIx g s)).val then 3 else 0) = _
  rw [grpOf_dIx]

/-- Every payment of the list is to a core's cell above level `b`. -/
def Above (b : ℕ) (l : List (GSem nD τ sig × ℕ)) : Prop := ∀ p ∈ l, p.1.1.2 = .tc ∧ b < lv p.1 ()

theorem owe_pos {b : ℕ} {l : List (GSem nD τ sig × ℕ)} (h : Above b l) (g : GSem nD τ sig) (u : Unit) (hg : 0 < owe l g u) :
    u ∈ L g ∧ b < lv g u := by
  induction l with
  | nil => exact absurd hg (Nat.lt_irrefl 0)
  | cons p l ih =>
    unfold owe at hg
    rw [Pi.add_apply, Finsupp.add_apply] at hg
    rcases Nat.add_pos_iff_pos_or_pos.mp hg with hg | hg
    · exact ih (fun q hq => h q (List.mem_cons_of_mem _ hq)) hg
    · rw [tallyAt_apply] at hg
      split at hg
      · next e =>
        obtain ⟨h1, h2⟩ := h p List.mem_cons_self
        rw [e.1]
        exact ⟨by unfold L; rw [if_pos h1]; exact Finset.mem_singleton_self _, h2⟩
      · exact absurd hg (Nat.lt_irrefl 0)

theorem above_aOw (c : Dev nD) (l : List (Fin 4)) : Above 2 (aOw c l) := by
  induction l with
  | nil => intro p hp; exact absurd hp List.not_mem_nil
  | cons s l ih =>
    intro p hp
    have key : ∀ j : Fin 4, p = (dCell (nb j c) (rg (ri c)) s, N) → p.1.1.2 = .tc ∧ 2 < lv p.1 () := by
      rintro j rfl
      refine ⟨rfl, ?_⟩
      rw [lv_dma]
      have : 6 ≤ (rg (ri c)).val := Nat.le_add_right _ _
      rw [if_neg (by omega), if_pos this]; decide
    rcases List.mem_cons.mp hp with h | hp
    · exact key 1 h
    rcases List.mem_cons.mp hp with h | hp
    · exact key 2 h
    rcases List.mem_cons.mp hp with h | hp
    · exact key 3 h
    exact ih p hp

theorem above_mono {a b : ℕ} (hab : a ≤ b) {l : List (GSem nD τ sig × ℕ)} (h : Above b l) : Above a l := fun p hp => ⟨(h p hp).1, lt_of_le_of_lt hab (h p hp).2⟩

theorem above_yaOw (c : Dev nD) (l l' : List (Fin 4)) : Above 1 (yOw c l ++ aOw c l') := by
  intro p hp
  rcases List.mem_append.mp hp with hp | hp
  · obtain ⟨s, -, rfl⟩ := List.mem_map.mp hp
    exact ⟨rfl, by rw [lv_dma]; decide⟩
  · exact above_mono (by decide) (above_aOw c l') p hp

theorem above_ow₀ (c : Dev nD) : Above 0 (ow₀ c) := by
  intro p hp
  rcases List.mem_append.mp hp with hp | hp
  · unfold sigs at hp
    simp only [List.mem_cons, List.not_mem_nil, or_false] at hp
    rcases hp with rfl | rfl | rfl | rfl <;> exact ⟨rfl, Nat.one_pos⟩
  · exact above_mono (by decide) (above_yaOw c _ _) p hp

/-- A device may wait on a cell all of whose remaining payments lie above. -/
theorem mayWait (c : Dev nD) (sm : SemLoc sig) (l : List (GSem nD τ sig × ℕ)) (h : Above (lv ((c : Thread nD τ), sm) ()) l) :
    (levAts L lv : sProp 𝕄) ⊢ MayWait (c : Thread nD τ) sm () (owe l) :=
  MayOwe.of_cut (L := L) (lev := lv) (lv ((c : Thread nD τ), sm) ())
    (fun p hp => by rw [Finset.mem_singleton.mp hp, L_tc]; exact Finset.mem_singleton_self _)
    (fun g u hg => (owe_pos h g u hg).1)
    (fun p hp => by rw [Finset.mem_singleton.mp hp])
    (fun g u hg => (owe_pos h g u hg).2)

/-! ## The records every device carries -/

/-- The cells of the exchange. -/
def cells : Finset (GSem nD τ sig) :=
  (Finset.univ : Finset (Dev nD × Option (Fin 9 × Fin 4))).image fun p => match p.2 with | none => barCell p.1 | some q => dCell p.1 q.1.succ q.2

theorem bar_mem (c : Dev nD) : barCell c ∈ cells := Finset.mem_image.mpr ⟨(c, none), Finset.mem_univ _, rfl⟩
theorem dma_mem (c : Dev nD) (g : Fin 10) (hg : g ≠ 0) (s : Fin 4) : dCell c g s ∈ cells :=
  Finset.mem_image.mpr ⟨(c, some (g.pred hg, s)), Finset.mem_univ _, by simp⟩

/-- What device `me` knows throughout: the invariants of all cells, at the names `K`, that every barrier cell and every cell of its own
    has reached its round, and the levels. -/
def recs (K : GSem nD τ sig → ℕ) (me : Dev nD) : sProp 𝕄 :=
  iprop((bigSep cells fun g => cellInv ER (sch X) (K g) g) ∗ (bigSep Finset.univ fun c : Dev nD => reached ER (barCell c) 0)
    ∗ (bigSep Finset.univ fun p : Fin 9 × Fin 4 => reached ER (dCell me p.1.succ p.2) 0) ∗ levAts L lv)
instance recs_persistent (K : GSem nD τ sig → ℕ) (me : Dev nD) : BI.Persistent (recs X K me) := by unfold recs; infer_instance

/-- A proposition from which the invariant of every cell of the exchange, the round of the cells `me` may ask about, and the levels, can be
    read. -/
structure Recs (K : GSem nD τ sig → ℕ) (me : Dev nD) (R : sProp (MT nD τ sig Unit (Elt F) ℕ UU ℕ)) : Prop where
  bar : ∀ c : Dev nD, R ⊢ cellInv ER (sch X) (K (barCell c)) (barCell c)
  dma : ∀ (c : Dev nD) (g : Fin 10), g ≠ 0 → ∀ s : Fin 4, R ⊢ cellInv ER (sch X) (K (dCell c g s)) (dCell c g s)
  rbar : ∀ c : Dev nD, R ⊢ reached ER (barCell c) 0
  rdma : ∀ (g : Fin 10), g ≠ 0 → ∀ s : Fin 4, R ⊢ reached ER (dCell me g s) 0
  lev : R ⊢ levAts L lv

theorem recs_ok (K : GSem nD τ sig → ℕ) (me : Dev nD) : Recs X K me (recs X K me) where
  bar c := by unfold recs; iintro ⟨H, -⟩; have h : (bigSep cells fun g => cellInv ER (sch X) (K g) g : sProp 𝕄) ⊢ _ := bigSep_elim (bar_mem c); iapply h $$ H
  dma c g hg s := by unfold recs; iintro ⟨H, -⟩; have h : (bigSep cells fun g => cellInv ER (sch X) (K g) g : sProp 𝕄) ⊢ _ := bigSep_elim (dma_mem c g hg s); iapply h $$ H
  rbar c := by
    unfold recs; iintro ⟨-, H, -⟩
    have h : (bigSep Finset.univ fun c : Dev nD => reached ER (barCell c) 0 : sProp 𝕄) ⊢ _ := bigSep_elim (Finset.mem_univ c)
    iapply h $$ H
  rdma g hg s := by
    unfold recs; iintro ⟨-, -, H, -⟩
    have h : (bigSep Finset.univ fun p : Fin 9 × Fin 4 => reached ER (dCell me p.1.succ p.2) 0 : sProp 𝕄) ⊢ reached ER (dCell me (g.pred hg).succ s) 0 :=
      bigSep_elim (Finset.mem_univ (g.pred hg, s))
    rw [Fin.succ_pred] at h
    iapply h $$ H
  lev := by unfold recs; iintro ⟨-, -, -, H⟩; iexact H

/-- A cell whose round is over gives its counter back at zero. -/
theorem close (κ : ℕ) (g : GSem nD τ sig) :
    iprop(cellInv ER (sch X) κ g ∗ atPos ER g (0 + 1) ∅ 0) ⊢ (|={Set.univ}=> semVal g 0 : sProp 𝕄) :=
  Rounds.cell_close ER (sch X) (Set.mem_univ κ) id (duties_later X g)

end Cert.KernelIdeal.Swap

end
-- ==== Proof.Views.lean ====
/-
  The pieces through which the kernel loads, stores and sends, as sets of indices, and what a store or
  a landed transfer leaves in a buffer.
-/
module

public import proofs.«01_k».proof.Proof.Sched

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Slots as sent -/

/-- Piece `s` of a four-piece buffer, as a transfer names it. -/
abbrev sl4 (m : Memref sig .tc .vmem S4x2x32x2048 .bf16) (s : Fin 4) : Memref sig .tc .vmem S2x32x2048 .bf16 :=
  (m.slice (Rect.unit (s := S4x2x32x2048) ![s.val, 0, 0, 0] S1x2x32x2048.size (inb4 s)) (fun _ => rfl)).squeeze S2x32x2048 squeezes_S1x2x32x2048_S2x32x2048
/-- Piece `s` of row block `r` of the gather buffer. -/
abbrev sl44 (m : Memref sig .tc .vmem S4x4x2x32x2048 .bf16) (r s : Fin 4) : Memref sig .tc .vmem S2x32x2048 .bf16 :=
  (m.slice (Rect.unit (s := S4x4x2x32x2048) ![r.val, s.val, 0, 0, 0] S1x1x2x32x2048.size (inb44 r s)) (fun _ => rfl)).squeeze S2x32x2048 squeezes_S1x1x2x32x2048_S2x32x2048

theorem rect_slot4 (s : Fin 4) : (Rect.unit (s := S4x2x32x2048) ![s.val, 0, 0, 0] S1x2x32x2048.size (inb4 s)).set = slot4 s := by
  ext i
  rw [Rect.mem_set_unit, mem_slot4]
  constructor
  · intro h
    have h0 := h 0
    simp at h0
    exact Fin.ext (by omega)
  · intro h0 a
    have e0 := congrArg Fin.val h0
    have l1 : (i 1).val < 2 := (i 1).isLt
    have l2 : (i 2).val < 32 := (i 2).isLt
    have l3 : (i 3).val < 2048 := (i 3).isLt
    match a with
    | ⟨0, _⟩ => simp at e0 ⊢; omega
    | ⟨1, _⟩ => simp; omega
    | ⟨2, _⟩ => simp; omega
    | ⟨3, _⟩ => simp; omega

theorem rect_slot44 (r s : Fin 4) : (Rect.unit (s := S4x4x2x32x2048) ![r.val, s.val, 0, 0, 0] S1x1x2x32x2048.size (inb44 r s)).set = slot44 r s := by
  ext i
  rw [Rect.mem_set_unit, mem_slot44]
  constructor
  · intro h
    have h0 := h 0; have h1 := h 1
    simp at h0 h1
    exact ⟨Fin.ext (by omega), Fin.ext (by omega)⟩
  · rintro ⟨h0, h1⟩ a
    have e0 := congrArg Fin.val h0; have e1 := congrArg Fin.val h1
    have l1 : (i 2).val < 2 := (i 2).isLt
    have l2 : (i 3).val < 32 := (i 3).isLt
    have l3 : (i 4).val < 2048 := (i 4).isLt
    match a with
    | ⟨0, _⟩ => simp at e0 ⊢; omega
    | ⟨1, _⟩ => simp at e1 ⊢; omega
    | ⟨2, _⟩ => simp; omega
    | ⟨3, _⟩ => simp; omega
    | ⟨4, _⟩ => simp; omega

theorem set_PS (s : Fin 4) : (sl4 mPS s).view.set = slot4 s := (View.set_reshape _ _).trans ((View.set_slice_whole _ _).trans (rect_slot4 s))
theorem set_PR (s : Fin 4) : (sl4 mPR s).view.set = slot4 s := (View.set_reshape _ _).trans ((View.set_slice_whole _ _).trans (rect_slot4 s))
theorem set_AS (s : Fin 4) : (sl4 mAS s).view.set = slot4 s := (View.set_reshape _ _).trans ((View.set_slice_whole _ _).trans (rect_slot4 s))
theorem set_GR (r s : Fin 4) : (sl44 mGR r s).view.set = slot44 r s := (View.set_reshape _ _).trans ((View.set_slice_whole _ _).trans (rect_slot44 r s))

/-- The index of the buffer an index of a piece names. -/
theorem emb_slot4 (s : Fin 4) (x : S2x32x2048.Idx) :
    (Rect.unit (s := S4x2x32x2048) ![s.val, 0, 0, 0] S1x2x32x2048.size (inb4 s)).emb
      (Shape.reshapeEquiv squeezes_S1x2x32x2048_S2x32x2048.numel_eq x) = ix4 s (x 0) (x 1) (x 2) := by
  have e : Shape.reshapeEquiv squeezes_S1x2x32x2048_S2x32x2048.numel_eq x = (Fin.cons ⟨0, Nat.one_pos⟩ x : S1x2x32x2048.Idx) :=
    Shape.reshapeEquiv_cons_one _ x
  rw [e]
  funext a
  match a with
  | ⟨0, _⟩ => exact Fin.ext (by simp; rfl)
  | ⟨1, _⟩ => exact Fin.ext (by simp; rfl)
  | ⟨2, _⟩ => exact Fin.ext (by simp; rfl)
  | ⟨3, _⟩ => exact Fin.ext (by simp; rfl)

theorem emb_slot44 (r s : Fin 4) (x : S2x32x2048.Idx) :
    (Rect.unit (s := S4x4x2x32x2048) ![r.val, s.val, 0, 0, 0] S1x1x2x32x2048.size (inb44 r s)).emb
      (Shape.reshapeEquiv squeezes_S1x1x2x32x2048_S2x32x2048.numel_eq x) = ix5 r s (x 0) (x 1) (x 2) := by
  have e : Shape.reshapeEquiv squeezes_S1x1x2x32x2048_S2x32x2048.numel_eq x = (Fin.cons ⟨0, Nat.one_pos⟩ (Fin.cons ⟨0, Nat.one_pos⟩ x : S1x2x32x2048.Idx) : S1x1x2x32x2048.Idx) := by
    have h1 : S2x32x2048.numel = S1x2x32x2048.numel := squeezes_S1x2x32x2048_S2x32x2048.numel_eq
    have h2 : S1x2x32x2048.numel = S1x1x2x32x2048.numel := h1.symm.trans squeezes_S1x1x2x32x2048_S2x32x2048.numel_eq
    rw [← Shape.reshapeEquiv_cons_one h2, ← Shape.reshapeEquiv_cons_one h1, Shape.reshapeEquiv_reshapeEquiv]
  rw [e]
  funext a
  match a with
  | ⟨0, _⟩ => exact Fin.ext (by simp; rfl)
  | ⟨1, _⟩ => exact Fin.ext (by simp; rfl)
  | ⟨2, _⟩ => exact Fin.ext (by simp; rfl)
  | ⟨3, _⟩ => exact Fin.ext (by simp; rfl)
  | ⟨4, _⟩ => exact Fin.ext (by simp; rfl)

/-- What a transfer from piece `s` to piece `s` across `y` leaves there. -/
theorem landed_y (s : Fin 4) (fs : S4x2x32x2048.Idx → Elt F .bf16) (fd : S4x2x32x2048.Idx → Elt F .bf16) (i : S4x2x32x2048.Idx) (hi : i ∈ slot4 s) :
    (sl4 mPR s).view.write (Elt F) fd ((sl4 mPS s).view.read (Elt F) fs) Finset.univ i = fs i := by
  have hx : (sl4 mPR s).view.emb (ix3 (i 1) (i 2) (i 3)) = i := by
    refine (emb_slot4 s _).trans ?_
    rw [← mem_slot4.mp hi]
    funext a
    match a with
    | ⟨0, _⟩ => rfl
    | ⟨1, _⟩ => rfl
    | ⟨2, _⟩ => rfl
    | ⟨3, _⟩ => rfl
  have h1 := View.write_emb_of_mem (Val := Elt F) (v := (sl4 mPR s).view) fd ((sl4 mPS s).view.read (Elt F) fs) (Finset.mem_univ (ix3 (i 1) (i 2) (i 3)))
  refine (congrArg _ hx.symm).trans (h1.trans ?_)
  exact congrArg fs hx

/-- What a transfer from piece `s` to piece `s` of row block `r` leaves there. -/
theorem landed_ag (r s : Fin 4) (fs : S4x2x32x2048.Idx → Elt F .bf16) (fd : S4x4x2x32x2048.Idx → Elt F .bf16) (i : S4x4x2x32x2048.Idx) (hi : i ∈ slot44 r s) :
    (sl44 mGR r s).view.write (Elt F) fd ((sl4 mAS s).view.read (Elt F) fs) Finset.univ i = fs (ix4 (i 1) (i 2) (i 3) (i 4)) := by
  have hx : (sl44 mGR r s).view.emb (ix3 (i 2) (i 3) (i 4)) = i := by
    refine (emb_slot44 r s _).trans ?_
    rw [← (mem_slot44.mp hi).1, ← (mem_slot44.mp hi).2]
    funext a
    match a with
    | ⟨0, _⟩ => rfl
    | ⟨1, _⟩ => rfl
    | ⟨2, _⟩ => rfl
    | ⟨3, _⟩ => rfl
    | ⟨4, _⟩ => rfl
  have h1 := View.write_emb_of_mem (Val := Elt F) (v := (sl44 mGR r s).view) fd ((sl4 mAS s).view.read (Elt F) fs) (Finset.mem_univ (ix3 (i 2) (i 3) (i 4)))
  refine (congrArg _ hx.symm).trans (h1.trans ?_)
  rw [(mem_slot44.mp hi).2]
  exact congrArg fs (emb_slot4 s (ix3 (i 2) (i 3) (i 4)))

/-! ## Stores -/

theorem access_PS (r : Rect S4x2x32x2048) : (mPS.access r).set = r.set := View.set_slice_whole _ _
theorem access_PR (r : Rect S4x2x32x2048) : (mPR.access r).set = r.set := View.set_slice_whole _ _
theorem access_AS (r : Rect S4x2x32x2048) : (mAS.access r).set = r.set := View.set_slice_whole _ _
theorem access_GR (r : Rect S4x4x2x32x2048) : (mGR.access r).set = r.set := View.set_slice_whole _ _
theorem access_O (r : Rect S2x512x2048) : (mO.access r).set = r.set := View.set_slice_whole _ _

theorem rect4_sub (s : Fin 4) (b : Fin 2) : (rect4 s b).set ⊆ slot4 s := fun i hi => mem_slot4.mpr (mem_rect4.mp hi).1
theorem rect44_sub (r s : Fin 4) (b : Fin 2) : (rect44 r s b).set ⊆ slot44 r s := fun i hi => mem_slot44.mpr ⟨(mem_rect44.mp hi).1, (mem_rect44.mp hi).2.1⟩

/-- After a store through a rectangle of a whole buffer: the stored value inside. -/
theorem write_in {b : Ref sig .tc} {r : Rect b.ty.shape} (f : b.ty.Contents (Elt F)) (w : r.shape.Idx → Elt F b.ty.elt) (x : r.shape.Idx) :
    ((Memref.whole b).access r).write (Elt F) f w Finset.univ (r.emb x) = w x :=
  View.write_emb_of_mem (Val := Elt F) (v := (Memref.whole b).access r) f w (Finset.mem_univ x)

/-- The old contents outside. -/
theorem write_off {b : Ref sig .tc} {r : Rect b.ty.shape} (f : b.ty.Contents (Elt F)) (w : r.shape.Idx → Elt F b.ty.elt) (i : b.ty.shape.Idx) (hi : i ∉ r.set) :
    ((Memref.whole b).access r).write (Elt F) f w Finset.univ i = f i :=
  View.write_of_not_mem (Val := Elt F) (v := (Memref.whole b).access r) f w Finset.univ (by
    rw [View.setOn_univ]; intro h; exact hi ((View.set_slice_whole b r) ▸ h))

/-- A value of a half piece depends on the last two coordinates. -/
theorem eta4 (x : S1x1x32x2048.Idx) : x = ix4 0 0 (x 2) (x 3) := by
  funext a
  match a with
  | ⟨0, _⟩ => exact Fin.ext (by have : (x 0).val < 1 := (x 0).isLt; simp; omega)
  | ⟨1, _⟩ => exact Fin.ext (by have : (x 1).val < 1 := (x 1).isLt; simp; omega)
  | ⟨2, _⟩ => rfl
  | ⟨3, _⟩ => rfl
theorem eta3 (x : S1x32x2048.Idx) : x = ix3 0 (x 1) (x 2) := by
  funext a
  match a with
  | ⟨0, _⟩ => exact Fin.ext (by have : (x 0).val < 1 := (x 0).isLt; simp; omega)
  | ⟨1, _⟩ => rfl
  | ⟨2, _⟩ => rfl

theorem ex_rect4 {s : Fin 4} {b : Fin 2} {i : S4x2x32x2048.Idx} (h0 : i 0 = s) (h1 : i 1 = b) : ∃ x, (rect4 s b).emb x = i :=
  ⟨ix4 0 0 (i 2) (i 3), by
    rw [emb_rect4, ← h0, ← h1]
    funext a
    match a with
    | ⟨0, _⟩ => rfl
    | ⟨1, _⟩ => rfl
    | ⟨2, _⟩ => rfl
    | ⟨3, _⟩ => rfl⟩

/-- Two half pieces stored one after the other fill the piece. -/
theorem halves {E : Type} (s : Fin 4) (g0 g1 G : S4x2x32x2048.Idx → E)
    (in0 : ∀ x, g0 ((rect4 s 0).emb x) = G ((rect4 s 0).emb x)) (off1 : ∀ i, i ∉ (rect4 s 1).set → g1 i = g0 i)
    (in1 : ∀ x, g1 ((rect4 s 1).emb x) = G ((rect4 s 1).emb x)) (i : S4x2x32x2048.Idx) (hi : i ∈ slot4 s) : g1 i = G i := by
  have hs := mem_slot4.mp hi
  by_cases hb : i 1 = (1 : Fin 2)
  · obtain ⟨x, rfl⟩ := ex_rect4 hs hb
    exact in1 x
  · have hb0 : i 1 = (0 : Fin 2) := by
      have l1 : (i 1).val < 2 := (i 1).isLt
      have l2 : (i 1).val ≠ 1 := fun h => hb (Fin.ext h)
      exact Fin.ext (show (i 1).val = 0 by omega)
    rw [off1 i (fun h => hb (mem_rect4.mp h).2)]
    obtain ⟨x, rfl⟩ := ex_rect4 hs hb0
    exact in0 x

/-! ## The result, piece by piece -/

theorem emb_rectR (k : Fin 16) (b : Fin 2) (x : S1x32x2048.Idx) :
    kAt ((rectR k b).emb x) = k ∧ ((rectR k b).emb x) 0 = b ∧ rowAt ((rectR k b).emb x) = x 1 ∧ ((rectR k b).emb x) 2 = x 2 := by
  have h0 : (x 0).val < 1 := (x 0).isLt
  have h1 : (x 1).val < 32 := (x 1).isLt
  refine ⟨Fin.ext ?_, Fin.ext ?_, Fin.ext ?_, Fin.ext ?_⟩
  · simp [kAt]; omega
  · simp; omega
  · simp [rowAt]; omega
  · simp

theorem ex_rectR {k : Fin 16} {b : Fin 2} {i : S2x512x2048.Idx} (hk : kAt i = k) (hb : i 0 = b) : ∃ x, (rectR k b).emb x = i := by
  subst hk; subst hb
  refine ⟨ix3 0 (rowAt i) (i 2), ?_⟩
  funext a
  match a with
  | ⟨0, _⟩ => exact Fin.ext (by simp)
  | ⟨1, _⟩ => exact Fin.ext (by simp [kAt, rowAt]; omega)
  | ⟨2, _⟩ => exact Fin.ext (by simp)

variable (X : Ins F)

/-- The pieces of the result listed in `K` are written. -/
def Done (c : Dev nD) (K : List (Fin 16 × Fin 2)) (f : S2x512x2048.Idx → Elt F .f32) : Prop := ∀ i, (kAt i, (i 0 : Fin 2)) ∈ K → f i = outC X c i

theorem done_cons (c : Dev nD) (K : List (Fin 16 × Fin 2)) (f : S2x512x2048.Idx → Elt F .f32) (k : Fin 16) (b : Fin 2) (hf : Done X c K f) (w : S1x32x2048.Idx → Elt F .f32)
    (hw : w = pieceC X c k b) : Done X c ((k, b) :: K) ((mO.access (rectR k b)).write (Elt F) f w Finset.univ) := by
  intro i hi
  by_cases h : kAt i = k ∧ (i 0 : Fin 2) = b
  · obtain ⟨x, rfl⟩ := ex_rectR h.1 h.2
    obtain ⟨e1, e2, e3, e4⟩ := emb_rectR k b x
    refine (write_in (b := cc0_stg3_0) (r := rectR k b) f w x).trans ?_
    rw [hw]
    unfold outC
    rw [e1, e3, show ((rectR k b).emb x) 2 = x 2 from e4]
    exact (congrArg (pieceC X c k b) (eta3 x)).trans (congrArg (fun b' => pieceC X c k b' (ix3 0 (x 1) (x 2))) e2.symm)
  · refine (write_off (b := cc0_stg3_0) (r := rectR k b) f w i (fun hm => h ?_)).trans (hf i ?_)
    · have := mem_rectR.mp hm
      exact ⟨Fin.ext this.2, this.1⟩
    · rcases List.mem_cons.mp hi with e | e
      · exact absurd ⟨congrArg Prod.fst e, congrArg Prod.snd e⟩ h
      · exact e

theorem done_all (c : Dev nD) (K : List (Fin 16 × Fin 2)) (f : S2x512x2048.Idx → Elt F .f32) (hf : Done X c K f) (hK : ∀ p, p ∈ K) : f = outC X c :=
  funext fun i => hf i (hK _)

end Cert.KernelIdeal.Swap

end
-- ==== Proof.Steps.lean ====
/-
  The phases of the kernel, each over the operations it runs: the four sends across `y`, the four sums
  and their sends to the other three neighbours, the twelve receipts, the sixteen send waits.
-/
module

public import proofs.«01_k».proof.Proof.Views

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
/-- The kernel's programs, and a program run on device `c`. -/
abbrev PG (F : FTy → Type) [FloatOps F] : Type 1 := Prog (TpuEff nD τ sig (Elt F) Λ₀ .tc) PUnit
abbrev run (c : Dev nD) (p : PG F) (Q : PUnit.{1} → sProp 𝕄) : sProp 𝕄 := wp frame (wpE (defs₀ (F := F)) 𝒱₀ (c : Thread nD τ) none) Set.univ p Q

variable (X : Ins F) {K : GSem nD τ sig → ℕ} (c : Dev nD) {R : sProp (MT nD τ sig Unit (Elt F) ℕ UU ℕ)} [BI.Persistent R] (hR : Recs X K c R)

/-- What a device owes, whatever waits are recorded. -/
def owesE (l : List (GSem nD τ sig × ℕ)) : sProp 𝕄 := iprop(∃ W, owes (c : Thread nD τ) (owe l) W)

/-- A load from a buffer of which the part `S` is held. -/
theorem ld {s : Shape} {e : EltTy} {m : Memref sig .tc .vmem s e} {r : Rect s} {hl : m.view.LoadsAt r.toLoadRect} {k : (r.shape.Idx → Elt F e) → PG F} {Q : PUnit.{1} → sProp 𝕄}
    {S : Finset (Idx (m.view.loc (c : Thread nD τ)))} {q : PosShare TreeShare} {f : Buf (Elt F) (m.view.loc (c : Thread nD τ))} (hS : (m.access r).set ⊆ S) :
    (m.view.loc (c : Thread nD τ) ↦[S]{q} f : sProp 𝕄)
      ⊢ iprop(((m.view.loc (c : Thread nD τ) ↦[S]{q} f) -∗ run c (k ((m.access r).read (Elt F) f)) Q) -∗ run c (Prog.op (.load m r.toLoadRect hl) k) Q) :=
  wp_load_rect (m := m) (r := r) 𝒱₀ (c : Thread nD τ) none Set.univ hS

/-- A store into a buffer of which the part `S` is held. -/
theorem st {s : Shape} {e : EltTy} {m : Memref sig .tc .vmem s e} {r : Rect s} {w : r.shape.Idx → Elt F e} {hx : (m.access r).Stores Finset.univ} {hm} {k : PUnit.{1} → PG F} {Q : PUnit.{1} → sProp 𝕄}
    {S : Finset (Idx (m.view.loc (c : Thread nD τ)))} {f : Buf (Elt F) (m.view.loc (c : Thread nD τ))} (hS : (m.access r).set ⊆ S) :
    (m.view.loc (c : Thread nD τ) ↦[S]{fullShare} f : sProp 𝕄)
      ⊢ iprop(((m.view.loc (c : Thread nD τ) ↦[S]{fullShare} ((m.access r).write (Elt F) f w Finset.univ)) -∗ run c (k ⟨⟩) Q)
        -∗ run c (Prog.op (.store m r w Finset.univ hx hm) k) Q) :=
  wp_store (m := m) (r := r) 𝒱₀ (c : Thread nD τ) none Set.univ (by rw [View.setOn_univ]; exact hS)

/-- What is read of the weight block, all of it. -/
theorem read_W {iw} : (mW.access (Rect.unit (s := S1024x2048) (fun _ => 0) S1024x2048.size iw)).read (Elt F) (X.wo c) = X.wo c :=
  Memref.read_access_unit_zero (Elt F) cc0_stg2_0 rfl iw (X.wo c)

/-- A half piece of the sum across `y`, indexed by the buffer. -/
theorem psendC_emb (s : Fin 4) (b : Fin 2) (x : S1x1x32x2048.Idx) :
    k0_pay1 (fun j => X.peer c ((rectO s b).emb j)) (X.wo c) x = psendC X c ((rect4 s b).emb x) := by
  rw [emb_rect4]
  exact congrArg (k0_pay1 (fun j => X.peer c ((rectO s b).emb j)) (X.wo c)) (eta4 x)

/-- The two stores of the first phase leave the piece to send. -/
theorem psend_filled (s : Fin 4) (f : S4x2x32x2048.Idx → Elt F .bf16) (i : S4x2x32x2048.Idx) (hi : i ∈ slot4 s) :
    (mPS.access (rect4 s 1)).write (Elt F) ((mPS.access (rect4 s 0)).write (Elt F) f
      (k0_pay1 (fun j => X.peer c ((rectO s 0).emb j)) (X.wo c)) Finset.univ)
      (k0_pay1 (fun j => X.peer c ((rectO s 1).emb j)) (X.wo c)) Finset.univ i = psendC X c i :=
  halves s _ _ (psendC X c)
    (fun x => (write_in (b := cc0_scratch0) (r := rect4 s 0) f _ x).trans (psendC_emb X c s 0 x))
    (fun i h => write_off (b := cc0_scratch0) (r := rect4 s 1) _ _ i h)
    (fun x => (write_in (b := cc0_scratch0) (r := rect4 s 1) _ _ x).trans (psendC_emb X c s 1 x)) i hi

/-- Where a piece lands at the neighbour across `y`, and at another. -/
theorem land_zero (s : Fin 4) : land (F := F) 0 c s = iprop((∃ f, pt (nb 0 c) mPR (slot4 s) fullShare f) ∗ reached ER (dCell (nb 0 c) 2 s) 0) := if_pos rfl
theorem land_ne (j s : Fin 4) (hj : j ≠ 0) :
    land (F := F) j c s = iprop((∃ f, pt (nb j c) mGR (slot44 (ri c) s) fullShare f) ∗ reached ER (dCell (nb j c) (rg (ri c)) s) 0) := if_neg hj

/-- What the send of piece `s` across `y` needs: the own piece, the place it lands, and the tokens of the two semaphores it credits. -/
def Ypre (s : Fin 4) : sProp 𝕄 :=
  iprop((∃ f, pt c mPS (slot4 s) fullShare f) ∗ land (F := F) 0 c s
    ∗ dutyTok ER (dCell c 1 s) 0 0 ∗ dutyTok ER (dCell (nb 0 c) 2 s) 0 0)

/-- The staged inputs, unchanged throughout. -/
def inp : sProp 𝕄 :=
  iprop(pt c mP Finset.univ fullShare (X.peer c) ∗ pt c mM Finset.univ fullShare (X.mine c) ∗ pt c mW Finset.univ fullShare (X.wo c))

include hR in
/-- Both halves of piece `s` are computed and stored, and the piece is sent across `y`. -/
theorem yPhase (s : Fin 4) (l : List (GSem nD τ sig × ℕ))
    {o0 : Fin 3 → ℕ} {i0} (e0 : o0 = ![0, 32 * s.val, 0]) {o1 : Fin 3 → ℕ} {i1} (e1 : o1 = ![1, 32 * s.val, 0])
    {ow : Fin 2 → ℕ} {iw} (ew : ow = fun _ => 0) {ow' : Fin 2 → ℕ} {iw'} (ew' : ow' = fun _ => 0)
    {q0 : Fin 4 → ℕ} {j0} (f0 : q0 = ![s.val, 0, 0, 0]) {q1 : Fin 4 → ℕ} {j1} (f1 : q1 = ![s.val, 1, 0, 0])
    {q2 : Fin 4 → ℕ} {j2} (f2 : q2 = ![s.val, 0, 0, 0])
    {p : Dev nD} (hp : p = nb 0 c) {σs σr : DmaSem sig} (hs : σs = dIx 1 s) (hr : σr = dIx 2 s)
    {la la' lw lw' lp lp'} {hx hx' hm hm'} {w0 w1 : Vec F S1x32x1024 .f32 → Vec F S1024x2048 .f32 → Vec F S1x1x32x2048 .bf16}
    (hw0 : w0 = k0_pay1) (hw1 : w1 = k0_pay1) {ev ev' hT} {k : PUnit.{1} → PG F} {Q : PUnit.{1} → sProp 𝕄} :
    iprop(R ∗ inp X c ∗ Ypre (F := F) c s ∗ owesE c ((dCell (nb 0 c) 2 s, N) :: l))
      ⊢ iprop(((inp X c ∗ cred (tallyAt (dCell c 1 s) () N) ∗ owesE c l) -∗ run c (k ⟨⟩) Q)
        -∗ run c (Prog.op (.load mP (Rect.unit (s := S2x128x1024) o0 S1x32x1024.size i0).toLoadRect la) fun v0 =>
            Prog.op (.load mW (Rect.unit (s := S1024x2048) ow S1024x2048.size iw).toLoadRect lw) fun v1 =>
            Prog.op (.load mPS (Rect.unit (s := S4x2x32x2048) q0 S1x1x32x2048.size j0).toLoadRect lp) fun _ =>
            Prog.op (.store mPS (Rect.unit (s := S4x2x32x2048) q0 S1x1x32x2048.size j0) (w0 v0 v1) Finset.univ hx hm) fun _ =>
            Prog.op (.load mP (Rect.unit (s := S2x128x1024) o1 S1x32x1024.size i1).toLoadRect la') fun v0' =>
            Prog.op (.load mW (Rect.unit (s := S1024x2048) ow' S1024x2048.size iw').toLoadRect lw') fun v1' =>
            Prog.op (.load mPS (Rect.unit (s := S4x2x32x2048) q1 S1x1x32x2048.size j1).toLoadRect lp') fun _ =>
            Prog.op (.store mPS (Rect.unit (s := S4x2x32x2048) q1 S1x1x32x2048.size j1) (w1 v0' v1') Finset.univ hx' hm') fun _ =>
            Prog.op (.enqueueDma ((mPS.slice (Rect.unit (s := S4x2x32x2048) q2 S1x2x32x2048.size j2) (fun _ => rfl)).squeeze S2x32x2048 squeezes_S1x2x32x2048_S2x32x2048)
              (.remote (Dev.tc p) ((mPR.slice (Rect.unit (s := S4x2x32x2048) q2 S1x2x32x2048.size j2) (fun _ => rfl)).squeeze S2x32x2048 squeezes_S1x2x32x2048_S2x32x2048) (.dma σs))
              (.dma σr) ev ev' hT) k) Q) := by
  subst e0; subst e1; subst ew; subst ew'; subst f0; subst f1; subst f2; subst hp; subst hs; subst hr; subst hw0; subst hw1
  unfold Ypre inp owesE
  rw [land_zero]
  iintro ⟨#HR, ⟨HP, HM, HW⟩, ⟨⟨%f, Hs⟩, ⟨⟨%fd, Hd⟩, #Hr⟩, Ht1, Ht2⟩, ⟨%W, HO⟩⟩ Hk
  iapply (ld c (m := mP) (r := rectO s 0) (Finset.subset_univ _)) $$ HP
  iintro HP
  iapply (ld c (m := mW) (r := Rect.unit (s := S1024x2048) (fun _ => 0) S1024x2048.size iw) (Finset.subset_univ _)) $$ HW
  iintro HW
  iapply (ld c (m := mPS) (r := rect4 s 0) (S := slot4 s) ((access_PS _).subset.trans (rect4_sub s 0))) $$ Hs
  iintro Hs
  iapply (st c (m := mPS) (r := rect4 s 0) (S := slot4 s) ((access_PS _).subset.trans (rect4_sub s 0))) $$ Hs
  iintro Hs
  iapply (ld c (m := mP) (r := rectO s 1) (Finset.subset_univ _)) $$ HP
  iintro HP
  iapply (ld c (m := mW) (r := Rect.unit (s := S1024x2048) (fun _ => 0) S1024x2048.size iw') (Finset.subset_univ _)) $$ HW
  iintro HW
  iapply (ld c (m := mPS) (r := rect4 s 1) (S := slot4 s) ((access_PS _).subset.trans (rect4_sub s 1))) $$ Hs
  iintro Hs
  iapply (st c (m := mPS) (r := rect4 s 1) (S := slot4 s) ((access_PS _).subset.trans (rect4_sub s 1))) $$ Hs
  iintro Hs
  ihave Hs := (Entails.of_eq (pointsTo_congr (g := psendC X c) fun i hi => by
    rw [read_W X c]; exact psend_filled X c s f i hi)) $$ Hs
  iapply (Rounds.wp_send_pointsTo 𝒱₀ ER (sch X) (c : Thread nD τ) none (c' := (nb 0 c : Thread nD τ)) (src := sl4 mPS s) (dst := sl4 mPR s)
      (sS := .dma (dIx 1 s)) (sem := .dma (dIx 2 s)) (q := fullShare) (fs := psendC X c) (κ₁ := K (dCell c 1 s)) (κ₂ := K (dCell (nb 0 c) 2 s))
      (r₁ := 0) (r₂ := 0) (d₁ := 0) (d₂ := 0) (fd := fd)
      (by rw [duties_dma X c 1 s (isDma_one c)]; exact Finset.mem_singleton_self _)
      (by rw [duties_dma X (nb 0 c) 2 s (isDma_two _)]; exact Finset.mem_singleton_self _)
      () () N rfl (amount_dma X c 1 s 0) (amount_dma X (nb 0 c) 2 s 0) (owe l) rfl (W := W)
      (by rw [payload_dma, pay_ysend, set_PS])
      (by
        rw [payload_dma, pay_yrecv, set_PR]
        refine Entails.of_eq (pointsTo_congr fun i hi => ?_)
        rw [landed_y s _ _ i hi, precvC, nb_nb])) $$ [Hs Hd HO Ht1 Ht2]
  · isplitr; · iapply (hR.dma c 1 (by decide) s) $$ HR
    isplitr; · iapply (hR.dma (nb 0 c) 2 (by decide) s) $$ HR
    isplitl [Hs]; · rw [set_PS]; iexact Hs
    isplitl [Hd]; · rw [set_PR]; iexact Hd
    isplitl [HO]; · iexact HO
    isplitl [Ht1]; · iexact Ht1
    isplitr; · iapply (hR.rdma 1 (by decide) s) $$ HR
    isplitl [Ht2]; · iexact Ht2
    iexact Hr
  iintro ⟨Hc, HO⟩
  iapply Hk
  isplitl [HP HM HW]
  · isplitl [HP]; · iexact HP
    isplitl [HM] <;> iassumption
  isplitl [Hc]; · iexact Hc
  iexists W; iexact HO

/-- A separating conjunction over four indices, written out. -/
theorem bigSep_four (Φ : Fin 4 → sProp 𝕄) : (bigSep Finset.univ Φ : sProp 𝕄) = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

include hR in
/-- One signal to a neighbour: the four places of the own buffers where the neighbour's pieces land go with it. -/
theorem sigStep (j : Fin 4) (l : List (GSem nD τ sig × ℕ)) {p : Dev nD} (hp : p = nb j c) {σ : Sem sig} (hσ : σ = barS)
    {k : PUnit.{1} → PG F} {Q : PUnit.{1} → sProp 𝕄} :
    iprop(R ∗ barPay (F := F) (nb j c) j ∗ dutyTok ER (barCell (nb j c)) 0 j ∗ owesE c ((barCell (nb j c), 1) :: l))
      ⊢ iprop((owesE c l -∗ run c (k ⟨⟩) Q) -∗ run c (Prog.op (.semSignal (Dev.tc p) σ 1) k) Q) := by
  subst hp; subst hσ
  unfold owesE
  iintro ⟨#HR, Hp, Ht, ⟨%W, HO⟩⟩ Hk
  iapply (Rounds.wp_signal 𝒱₀ ER (sch X) (c : Thread nD τ) none (dst := (nb j c : Thread nD τ)) (κ := K (barCell (nb j c)))
      (d := j) (by rw [duties_bar X (nb j c)]; exact Finset.mem_univ _) (amount_bar X (nb j c) j) () (owe l) rfl)
    $$ [Hp Ht HO]
  · isplitr; · iapply (hR.bar (nb j c)) $$ HR
    isplitl [HO]; · iexact HO
    isplitl [Ht]; · iexact Ht
    isplitl [Hp]; · rw [payload_bar]; iexact Hp
    iapply (hR.rbar (nb j c)) $$ HR
  iintro HO
  iapply Hk
  iexists W; iexact HO

include hR in
/-- The wait for the four neighbours: the four places at each of them where the own pieces land. -/
theorem barWait (l : List (GSem nD τ sig × ℕ)) (hl : Above 1 l) {σ : Sem sig} (hσ : σ = barS)
    {k : PUnit.{1} → PG F} {Q : PUnit.{1} → sProp 𝕄} :
    iprop(R ∗ cred (tallyAt (barCell c) () 4) ∗ atPos ER (barCell c) 0 ∅ 0 ∗ owesE c l)
      ⊢ iprop((((bigSep Finset.univ fun j => barPay (F := F) c j) ∗ semVal (barCell c) 0 ∗ owesE c l) -∗ run c (k ⟨⟩) Q)
        -∗ run c (Prog.op (.semWait σ 4) k) Q) := by
  subst hσ
  unfold owesE
  iintro ⟨#HR, Hc, Ha, ⟨%W, HO⟩⟩ Hk
  iapply (Rounds.wp_wait_rest_token 𝒱₀ ER (sch X) (c : Thread nD τ) none (κ := K (barCell c)) (wpE_semWait_eq 𝒱₀ (c : Thread nD τ) none Set.univ)
      (Set.mem_univ _) () (O := owe l) (W := W) (R := 0) (m := 0) (T := ∅) (by rw [expect_bar X c])) $$ [Hc HO Ha]
  · isplitr; · iapply (hR.bar c) $$ HR
    isplitl [Hc]; · iexact Hc
    isplitl [HO]; · iexact HO
    isplitr
    · iapply (mayWait c (.reg barS) l hl)
      iapply hR.lev $$ HR
    iexact Ha
  iintro ⟨HO, Ha, -, Hp⟩
  ihave Hp := (Entails.of_eq (rest_bar X c)) $$ Hp
  imod (close X (K (barCell c)) (barCell c)) $$ [Ha] with Hs
  · isplitr; · iapply (hR.bar c) $$ HR
    iexact Ha
  iapply Hk
  isplitl [Hp]; · iexact Hp
  isplitl [Hs]; · iexact Hs
  iexists _; iexact HO

include hR in
/-- The wait on a transfer semaphore for the one transfer that ends there: what the transfer hands over, and the counter back at zero. -/
theorem dmaWait (g : Fin 10) (s : Fin 4) (hg : isDma c g) (l : List (GSem nD τ sig × ℕ)) (hl : Above (lv (dCell c g s) ()) l)
    {σ : DmaSem sig} (hσ : σ = dIx g s) {s₁ s₂ : Shape} {e₁ e₂ : EltTy} {src : Memref sig .tc .vmem s₁ e₁} {dst : Memref sig .tc .vmem s₂ e₂} {h₁ h₂} (hN : dst.view.dmaCredit = N)
    {k : PUnit.{1} → PG F} {Q : PUnit.{1} → sProp 𝕄} :
    iprop(R ∗ cred (tallyAt (dCell c g s) () N) ∗ atPos ER (dCell c g s) 0 ∅ 0 ∗ owesE c l)
      ⊢ iprop(((dmaPay X c g s ∗ semVal (dCell c g s) 0 ∗ owesE c l) -∗ run c (k ⟨⟩) Q)
        -∗ run c (Prog.op (.waitDma2 σ src dst h₁ h₂) k) Q) := by
  subst hσ
  unfold owesE
  iintro ⟨#HR, Hc, Ha, ⟨%W, HO⟩⟩ Hk
  iapply (Rounds.wp_wait_rest_token 𝒱₀ ER (sch X) (c : Thread nD τ) none (κ := K (dCell c g s)) (wpE_waitDma2_eq 𝒱₀ (c : Thread nD τ) none Set.univ)
      (Set.mem_univ _) () (O := owe l) (W := W) (R := 0) (m := 0) (T := ∅) ((Nat.zero_add _).trans (hN.trans (expect_dma X c g s hg).symm))) $$ [Hc HO Ha]
  · isplitr; · iapply (hR.dma c g hg.1 s) $$ HR
    isplitl [Hc]; · rw [hN]; iexact Hc
    isplitl [HO]; · iexact HO
    isplitr
    · iapply (mayWait c (.dma (dIx g s)) l hl)
      iapply hR.lev $$ HR
    iexact Ha
  iintro ⟨HO, Ha, -, Hp⟩
  ihave Hp := (Entails.of_eq (rest_dma X c g s hg)) $$ Hp
  imod (close X (K (dCell c g s)) (dCell c g s)) $$ [Ha] with Hs
  · isplitr; · iapply (hR.dma c g hg.1 s) $$ HR
    iexact Ha
  iapply Hk
  isplitl [Hp]; · iexact Hp
  isplitl [Hs]; · iexact Hs
  iexists _; iexact HO

/-- The result's buffer, of which the pieces in `Kl` are written. -/
def outE (Kl : List (Fin 16 × Fin 2)) : sProp 𝕄 := iprop(∃ f, ⌜Done X c Kl f⌝ ∗ pt c mO Finset.univ fullShare f)

/-- One received half piece is copied to the result. -/
theorem copyStep (r s : Fin 4) (b : Fin 2) (hr : r ≠ ri c) (Kl : List (Fin 16 × Fin 2))
    {oG : Fin 5 → ℕ} {iG} (eG : oG = ![r.val, s.val, b.val, 0, 0]) {oO : Fin 3 → ℕ} {iO} (eO : oO = ![b.val, 32 * (kOf r s).val, 0])
    {oO' : Fin 3 → ℕ} {iO'} (eO' : oO' = ![b.val, 32 * (kOf r s).val, 0])
    {lG lO} {hx hm} {w : Vec F S1x1x1x32x2048 .bf16 → Vec F S1x32x2048 .f32} (hw : w = k0_pay48) {k : PUnit.{1} → PG F} {Q : PUnit.{1} → sProp 𝕄} :
    iprop(pt c mGR (slot44 r s) fullShare (agrecvC X c) ∗ outE X c Kl)
      ⊢ iprop(((pt c mGR (slot44 r s) fullShare (agrecvC X c) ∗ outE X c ((kOf r s, b) :: Kl)) -∗ run c (k ⟨⟩) Q)
        -∗ run c (Prog.op (.load mGR (Rect.unit (s := S4x4x2x32x2048) oG S1x1x1x32x2048.size iG).toLoadRect lG) fun v =>
            Prog.op (.load mO (Rect.unit (s := S2x512x2048) oO S1x32x2048.size iO).toLoadRect lO) fun _ =>
            Prog.op (.store mO (Rect.unit (s := S2x512x2048) oO' S1x32x2048.size iO') (w v) Finset.univ hx hm) k) Q) := by
  subst eG; subst eO; subst eO'; subst hw
  unfold outE
  iintro ⟨HG, ⟨%f, %hf, HO⟩⟩ Hk
  iapply (ld c (m := mGR) (r := rect44 r s b) (S := slot44 r s) ((access_GR _).subset.trans (rect44_sub r s b))) $$ HG
  iintro HG
  iapply (ld c (m := mO) (r := rectR (kOf r s) b) (Finset.subset_univ _)) $$ HO
  iintro HO
  iapply (st c (m := mO) (r := rectR (kOf r s) b) (Finset.subset_univ _)) $$ HO
  iintro HO
  iapply Hk
  isplitl [HG]; · iexact HG
  iexists _
  isplitr
  swap; · iexact HO
  ipureintro
  refine done_cons X c Kl f (kOf r s) b hf _ ?_
  unfold pieceC
  rw [if_neg (by rw [rOf_kOf]; exact hr), rOf_kOf, sOf_kOf]
  rfl

/-- A half piece of the sum, indexed by the buffer. -/
theorem agsendC_emb (s : Fin 4) (b : Fin 2) (x : S1x1x32x2048.Idx) :
    k0_pay14 (mineC X c s b) (fun j => precvC X c ((rect4 s b).emb j)) x = agsendC X c ((rect4 s b).emb x) := by
  rw [emb_rect4]
  exact congrArg (k0_pay14 (mineC X c s b) (fun j => precvC X c ((rect4 s b).emb j))) (eta4 x)

/-- The two stores of the second phase leave the piece to send on. -/
theorem agsend_filled (s : Fin 4) (f : S4x2x32x2048.Idx → Elt F .bf16) (i : S4x2x32x2048.Idx) (hi : i ∈ slot4 s) :
    (mAS.access (rect4 s 1)).write (Elt F) ((mAS.access (rect4 s 0)).write (Elt F) f
      (k0_pay14 (mineC X c s 0) (fun j => precvC X c ((rect4 s 0).emb j))) Finset.univ)
      (k0_pay14 (mineC X c s 1) (fun j => precvC X c ((rect4 s 1).emb j))) Finset.univ i = agsendC X c i :=
  halves s _ _ (agsendC X c)
    (fun x => (write_in (b := cc0_scratch2) (r := rect4 s 0) f _ x).trans (agsendC_emb X c s 0 x))
    (fun i h => write_off (b := cc0_scratch2) (r := rect4 s 1) _ _ i h)
    (fun x => (write_in (b := cc0_scratch2) (r := rect4 s 1) _ _ x).trans (agsendC_emb X c s 1 x)) i hi

/-- The own piece of the result is the sum of the own product and the received one. -/
theorem piece_own (s : Fin 4) (b : Fin 2) : pieceC X c (kOf (ri c) s) b = qC X c s b := by
  unfold pieceC
  rw [if_pos (rOf_kOf _ _), sOf_kOf]

include hR in
/-- Piece `s` received across `y` is added to the own product; the sum goes to the result and, rounded, to the piece to send on. -/
theorem agOwn (s : Fin 4) (l : List (GSem nD τ sig × ℕ)) (hl : Above 2 l) (Kl : List (Fin 16 × Fin 2))
    {o0 : Fin 3 → ℕ} {i0} (e0 : o0 = ![0, 32 * s.val, 0]) {o1 : Fin 3 → ℕ} {i1} (e1 : o1 = ![1, 32 * s.val, 0])
    {ow : Fin 2 → ℕ} {iw} (ew : ow = fun _ => 0) {ow' : Fin 2 → ℕ} {iw'} (ew' : ow' = fun _ => 0)
    {σ : DmaSem sig} (hσ : σ = dIx 2 s) {s₁ s₂ : Shape} {e₁ e₂ : EltTy} {src : Memref sig .tc .vmem s₁ e₁} {dst : Memref sig .tc .vmem s₂ e₂} {h₁ h₂} (hN : dst.view.dmaCredit = N)
    {q0 : Fin 4 → ℕ} {j0} (f0 : q0 = ![s.val, 0, 0, 0]) {q1 : Fin 4 → ℕ} {j1} (f1 : q1 = ![s.val, 1, 0, 0])
    {a0 : Fin 4 → ℕ} {k0} (g0 : a0 = ![s.val, 0, 0, 0]) {a1 : Fin 4 → ℕ} {k1} (g1 : a1 = ![s.val, 1, 0, 0])
    {oO : Fin 3 → ℕ} {iO} (eO : oO = ![0, 32 * (kOf (ri c) s).val, 0]) {oO' : Fin 3 → ℕ} {iO'} (eO' : oO' = ![1, 32 * (kOf (ri c) s).val, 0])
    {la la' lw lw' lp lp' lo lo' ls ls'} {hx hx' hm hm' hy hy' hn hn'}
    {u0 u1 : Vec F S1x32x1024 .f32 → Vec F S1024x2048 .f32 → Vec F S1x1x32x2048 .bf16 → Vec F S1x32x2048 .f32}
    {t0 t1 : Vec F S1x32x1024 .f32 → Vec F S1024x2048 .f32 → Vec F S1x1x32x2048 .bf16 → Vec F S1x1x32x2048 .bf16}
    (hu0 : u0 = fun m w p => k0_pay13 (k0_pay10 m w) p) (hu1 : u1 = fun m w p => k0_pay13 (k0_pay10 m w) p)
    (ht0 : t0 = fun m w p => k0_pay14 (k0_pay10 m w) p) (ht1 : t1 = fun m w p => k0_pay14 (k0_pay10 m w) p)
    {k : PUnit.{1} → PG F} {Q : PUnit.{1} → sProp 𝕄} :
    iprop(R ∗ inp X c ∗ outE X c Kl ∗ (∃ f, pt c mAS (slot4 s) fullShare f) ∗ cred (tallyAt (dCell c 2 s) () N) ∗ atPos ER (dCell c 2 s) 0 ∅ 0 ∗ owesE c l)
      ⊢ iprop(((inp X c ∗ outE X c ((kOf (ri c) s, 1) :: (kOf (ri c) s, 0) :: Kl) ∗ pt c mAS (slot4 s) fullShare (agsendC X c)
            ∗ pt c mPR (slot4 s) fullShare (precvC X c) ∗ semVal (dCell c 2 s) 0 ∗ owesE c l) -∗ run c (k ⟨⟩) Q)
        -∗ run c (Prog.op (.load mM (Rect.unit (s := S2x128x1024) o0 S1x32x1024.size i0).toLoadRect la) fun v0 =>
            Prog.op (.load mW (Rect.unit (s := S1024x2048) ow S1024x2048.size iw).toLoadRect lw) fun v1 =>
            Prog.op (.load mM (Rect.unit (s := S2x128x1024) o1 S1x32x1024.size i1).toLoadRect la') fun v0' =>
            Prog.op (.load mW (Rect.unit (s := S1024x2048) ow' S1024x2048.size iw').toLoadRect lw') fun v1' =>
            Prog.op (.waitDma2 σ src dst h₁ h₂) fun _ =>
            Prog.op (.load mPR (Rect.unit (s := S4x2x32x2048) q0 S1x1x32x2048.size j0).toLoadRect lp) fun p0 =>
            Prog.op (.load mO (Rect.unit (s := S2x512x2048) oO S1x32x2048.size iO).toLoadRect lo) fun _ =>
            Prog.op (.store mO (Rect.unit (s := S2x512x2048) oO S1x32x2048.size iO) (u0 v0 v1 p0) Finset.univ hx hm) fun _ =>
            Prog.op (.load mAS (Rect.unit (s := S4x2x32x2048) a0 S1x1x32x2048.size k0).toLoadRect ls) fun _ =>
            Prog.op (.store mAS (Rect.unit (s := S4x2x32x2048) a0 S1x1x32x2048.size k0) (t0 v0 v1 p0) Finset.univ hy hn) fun _ =>
            Prog.op (.load mPR (Rect.unit (s := S4x2x32x2048) q1 S1x1x32x2048.size j1).toLoadRect lp') fun p1 =>
            Prog.op (.load mO (Rect.unit (s := S2x512x2048) oO' S1x32x2048.size iO').toLoadRect lo') fun _ =>
            Prog.op (.store mO (Rect.unit (s := S2x512x2048) oO' S1x32x2048.size iO') (u1 v0' v1' p1) Finset.univ hx' hm') fun _ =>
            Prog.op (.load mAS (Rect.unit (s := S4x2x32x2048) a1 S1x1x32x2048.size k1).toLoadRect ls') fun _ =>
            Prog.op (.store mAS (Rect.unit (s := S4x2x32x2048) a1 S1x1x32x2048.size k1) (t1 v0' v1' p1) Finset.univ hy' hn') k) Q) := by
  subst e0; subst e1; subst ew; subst ew'; subst f0; subst f1; subst g0; subst g1; subst eO; subst eO'; subst hu0; subst hu1; subst ht0; subst ht1
  unfold inp outE
  iintro ⟨#HR, ⟨HP, HM, HW⟩, ⟨%f, %hf, HO⟩, ⟨%fa, HA⟩, Hc, Ha, Hw⟩ Hk
  iapply (ld c (m := mM) (r := rectO s 0) (Finset.subset_univ _)) $$ HM
  iintro HM
  iapply (ld c (m := mW) (r := Rect.unit (s := S1024x2048) (fun _ => 0) S1024x2048.size iw) (Finset.subset_univ _)) $$ HW
  iintro HW
  iapply (ld c (m := mM) (r := rectO s 1) (Finset.subset_univ _)) $$ HM
  iintro HM
  iapply (ld c (m := mW) (r := Rect.unit (s := S1024x2048) (fun _ => 0) S1024x2048.size iw') (Finset.subset_univ _)) $$ HW
  iintro HW
  iapply (dmaWait X c hR 2 s (isDma_two c) l (by rw [lv_dma]; exact hl) hσ hN) $$ [Hc Ha Hw]
  · isplitr; · iexact HR
    isplitl [Hc]; · iexact Hc
    isplitl [Ha] <;> iassumption
  iintro ⟨Hp, Hz, Hw⟩
  ihave Hp := (Entails.of_eq (pay_yrecv X c s)) $$ Hp
  iapply (ld c (m := mPR) (r := rect4 s 0) (S := slot4 s) ((access_PR _).subset.trans (rect4_sub s 0))) $$ Hp
  iintro Hp
  iapply (ld c (m := mO) (r := rectR (kOf (ri c) s) 0) (Finset.subset_univ _)) $$ HO
  iintro HO
  iapply (st c (m := mO) (r := rectR (kOf (ri c) s) 0) (Finset.subset_univ _)) $$ HO
  iintro HO
  iapply (ld c (m := mAS) (r := rect4 s 0) (S := slot4 s) ((access_AS _).subset.trans (rect4_sub s 0))) $$ HA
  iintro HA
  iapply (st c (m := mAS) (r := rect4 s 0) (S := slot4 s) ((access_AS _).subset.trans (rect4_sub s 0))) $$ HA
  iintro HA
  iapply (ld c (m := mPR) (r := rect4 s 1) (S := slot4 s) ((access_PR _).subset.trans (rect4_sub s 1))) $$ Hp
  iintro Hp
  iapply (ld c (m := mO) (r := rectR (kOf (ri c) s) 1) (Finset.subset_univ _)) $$ HO
  iintro HO
  iapply (st c (m := mO) (r := rectR (kOf (ri c) s) 1) (Finset.subset_univ _)) $$ HO
  iintro HO
  iapply (ld c (m := mAS) (r := rect4 s 1) (S := slot4 s) ((access_AS _).subset.trans (rect4_sub s 1))) $$ HA
  iintro HA
  iapply (st c (m := mAS) (r := rect4 s 1) (S := slot4 s) ((access_AS _).subset.trans (rect4_sub s 1))) $$ HA
  iintro HA
  ihave HA := (Entails.of_eq (pointsTo_congr (g := agsendC X c) fun i hi => by
    rw [read_W X c]; exact agsend_filled X c s fa i hi)) $$ HA
  iapply Hk
  isplitl [HP HM HW]
  · isplitl [HP]; · iexact HP
    isplitl [HM] <;> iassumption
  isplitl [HO]
  · iexists _
    isplitr
    swap; · iexact HO
    ipureintro
    refine done_cons X c _ _ (kOf (ri c) s) 1 (done_cons X c Kl f (kOf (ri c) s) 0 hf _ ?_) _ ?_
    · rw [piece_own, read_W X c]; rfl
    · rw [piece_own, read_W X c]; rfl
  isplitl [HA]; · iexact HA
  isplitl [Hp]; · iexact Hp
  isplitl [Hz]; · iexact Hz
  iexact Hw

/-- What the send of piece `s` to neighbour `j` needs: a share of the own piece, the place it lands, and the tokens of the two semaphores it credits. -/
def Apre (j s : Fin 4) : sProp 𝕄 :=
  iprop(land (F := F) j c s ∗ dutyTok ER (dCell c (sg j) s) 0 0 ∗ dutyTok ER (dCell (nb j c) (rg (ri c)) s) 0 0)

include hR in
/-- Piece `s` of the sums is sent to neighbour `j`. -/
theorem agSend (j s : Fin 4) (hj : j ≠ 0) (l : List (GSem nD τ sig × ℕ))
    {q0 : Fin 4 → ℕ} {j0} (f0 : q0 = ![s.val, 0, 0, 0]) {q1 : Fin 5 → ℕ} {j1} (f1 : q1 = ![(ri c).val, s.val, 0, 0, 0])
    {p : Dev nD} (hp : p = nb j c) {σs σr : DmaSem sig} (hs : σs = dIx (sg j) s) (hr : σr = dIx (rg (ri c)) s) {ev ev' hT}
    {k : PUnit.{1} → PG F} {Q : PUnit.{1} → sProp 𝕄} :
    iprop(R ∗ pt c mAS (slot4 s) (shr j) (agsendC X c) ∗ Apre (F := F) c j s ∗ owesE c ((dCell (nb j c) (rg (ri c)) s, N) :: l))
      ⊢ iprop(((cred (tallyAt (dCell c (sg j) s) () N) ∗ owesE c l) -∗ run c (k ⟨⟩) Q)
        -∗ run c (Prog.op (.enqueueDma ((mAS.slice (Rect.unit (s := S4x2x32x2048) q0 S1x2x32x2048.size j0) (fun _ => rfl)).squeeze S2x32x2048 squeezes_S1x2x32x2048_S2x32x2048)
              (.remote (Dev.tc p) ((mGR.slice (Rect.unit (s := S4x4x2x32x2048) q1 S1x1x2x32x2048.size j1) (fun _ => rfl)).squeeze S2x32x2048 squeezes_S1x1x2x32x2048_S2x32x2048) (.dma σs))
              (.dma σr) ev ev' hT) k) Q) := by
  subst f0; subst f1; subst hp; subst hs; subst hr
  unfold Apre owesE
  rw [land_ne c j s hj]
  iintro ⟨#HR, Hs, ⟨⟨⟨%fd, Hd⟩, #Hr⟩, Ht1, Ht2⟩, ⟨%W, HO⟩⟩ Hk
  have hsg : sg j ≠ 0 := (isDma_sg c j).1
  have hrg : rg (ri c) ≠ 0 := (isDma_nb c j hj).1
  iapply (Rounds.wp_send_pointsTo 𝒱₀ ER (sch X) (c : Thread nD τ) none (c' := (nb j c : Thread nD τ)) (src := sl4 mAS s) (dst := sl44 mGR (ri c) s)
      (sS := .dma (dIx (sg j) s)) (sem := .dma (dIx (rg (ri c)) s)) (q := shr j) (fs := agsendC X c) (κ₁ := K (dCell c (sg j) s)) (κ₂ := K (dCell (nb j c) (rg (ri c)) s))
      (r₁ := 0) (r₂ := 0) (d₁ := 0) (d₂ := 0) (fd := fd)
      (by rw [duties_dma X c (sg j) s (isDma_sg c j)]; exact Finset.mem_singleton_self _)
      (by rw [duties_dma X (nb j c) (rg (ri c)) s (isDma_nb c j hj)]; exact Finset.mem_singleton_self _)
      () () N rfl (amount_dma X c (sg j) s 0) (amount_dma X (nb j c) (rg (ri c)) s 0) (owe l) rfl (W := W)
      (by rw [payload_dma, pay_agsend X c s j hj, set_AS])
      (by
        rw [payload_dma, pay_agrecv, set_GR]
        refine Entails.of_eq (pointsTo_congr fun i hi => ?_)
        rw [landed_ag (ri c) s _ _ i hi, agrecvC, (mem_slot44.mp hi).1, own_nb j hj])) $$ [Hs Hd HO Ht1 Ht2]
  · isplitr; · iapply (hR.dma c (sg j) hsg s) $$ HR
    isplitr; · iapply (hR.dma (nb j c) (rg (ri c)) hrg s) $$ HR
    isplitl [Hs]; · rw [set_AS]; iexact Hs
    isplitl [Hd]; · rw [set_GR]; iexact Hd
    isplitl [HO]; · iexact HO
    isplitl [Ht1]; · iexact Ht1
    isplitr; · iapply (hR.rdma (sg j) hsg s) $$ HR
    isplitl [Ht2]; · iexact Ht2
    iexact Hr
  iintro ⟨Hc, HO⟩
  iapply Hk
  isplitl [Hc]; · iexact Hc
  iexists W; iexact HO

/-- A piece held whole is held in the three shares the three sends carry away, and back. -/
theorem shares {S : Finset S4x2x32x2048.Idx} {f : S4x2x32x2048.Idx → Elt F .bf16} :
    (pt c mAS S fullShare f : sProp 𝕄) ⊣⊢ iprop(pt c mAS S (shr 1) f ∗ pt c mAS S (shr 2) f ∗ pt c mAS S (shr 3) f) := by
  have h1 := pointsTo_share (sig := sig) (Ix := Unit) (Val := Elt F) (ℓ := mAS.view.loc (c : Thread nD τ)) (I := S) (f := f) (Name := ℕ) (U := UU) (Lvl := ℕ) (PosShare.mem_left_op_right fullShare)
  have h2 := pointsTo_share (sig := sig) (Ix := Unit) (Val := Elt F) (ℓ := mAS.view.loc (c : Thread nD τ)) (I := S) (f := f) (Name := ℕ) (U := UU) (Lvl := ℕ) (PosShare.mem_left_op_right (fullShare : PosShare TreeShare).right)
  exact ⟨h1.1.trans (sep_mono_r h2.1), (sep_mono_r h2.2).trans h1.2⟩

/-- What a device starts the exchange with: for the barrier's signal to neighbour `j`, -/
def Btok (j : Fin 4) : sProp 𝕄 := iprop(barPay (F := F) (nb j c) j ∗ dutyTok ER (barCell (nb j c)) 0 j)
/-- for the send of piece `s` across `y`, -/
def Ytok (s : Fin 4) : sProp 𝕄 :=
  iprop((∃ f, pt c mPS (slot4 s) fullShare f) ∗ dutyTok ER (dCell c 1 s) 0 0 ∗ dutyTok ER (dCell (nb 0 c) 2 s) 0 0 ∗ atPos ER (dCell c 1 s) 0 ∅ 0)
/-- for the receipt of piece `s` across `y`, -/
def Atok (s : Fin 4) : sProp 𝕄 := iprop((∃ f, pt c mAS (slot4 s) fullShare f) ∗ cred (tallyAt (dCell c 2 s) () N) ∗ atPos ER (dCell c 2 s) 0 ∅ 0)
/-- for the send of piece `s` to neighbour `j`, -/
def Gtok (j s : Fin 4) : sProp 𝕄 := iprop(dutyTok ER (dCell c (sg j) s) 0 0 ∗ dutyTok ER (dCell (nb j c) (rg (ri c)) s) 0 0 ∗ atPos ER (dCell c (sg j) s) 0 ∅ 0)
/-- and for the receipt of piece `s` from neighbour `j`. -/
def Rtok (j s : Fin 4) : sProp 𝕄 := iprop(cred (tallyAt (dCell c (rg (ri (nb j c))) s) () N) ∗ atPos ER (dCell c (rg (ri (nb j c))) s) 0 ∅ 0)

/-- What it ends with: the send piece across `y` and its semaphore, -/
def Yend (s : Fin 4) : sProp 𝕄 := iprop((∃ f, pt c mPS (slot4 s) fullShare f) ∗ semVal (dCell c 1 s) 0)
/-- the received piece and its semaphore, -/
def Aend (s : Fin 4) : sProp 𝕄 := iprop((∃ f, pt c mPR (slot4 s) fullShare f) ∗ semVal (dCell c 2 s) 0)
/-- the piece sent on and the three semaphores, -/
def Gend (s : Fin 4) : sProp 𝕄 :=
  iprop((∃ f, pt c mAS (slot4 s) fullShare f) ∗ semVal (dCell c (sg 1) s) 0 ∗ semVal (dCell c (sg 2) s) 0 ∗ semVal (dCell c (sg 3) s) 0)
/-- and the piece received from neighbour `j` and its semaphore. -/
def Rend (j s : Fin 4) : sProp 𝕄 := iprop((∃ f, pt c mGR (slot44 (ri (nb j c)) s) fullShare f) ∗ semVal (dCell c (rg (ri (nb j c))) s) 0)

theorem above_nil (b : ℕ) : Above b [] := fun p hp => absurd hp List.not_mem_nil

include hR in
/-- Piece `s` from neighbour `j` is awaited and both its halves copied to the result. -/
theorem recvPhase (j s : Fin 4) (hj : j ≠ 0) (Kl : List (Fin 16 × Fin 2))
    {σ : DmaSem sig} (hσ : σ = dIx (rg (ri (nb j c))) s) {s₁ s₂ : Shape} {e₁ e₂ : EltTy} {src : Memref sig .tc .vmem s₁ e₁} {dst : Memref sig .tc .vmem s₂ e₂} {h₁ h₂} (hN : dst.view.dmaCredit = N)
    {oG : Fin 5 → ℕ} {iG} (eG : oG = ![(ri (nb j c)).val, s.val, 0, 0, 0]) {oG' : Fin 5 → ℕ} {iG'} (eG' : oG' = ![(ri (nb j c)).val, s.val, 1, 0, 0])
    {oO : Fin 3 → ℕ} {iO} (eO : oO = ![0, 32 * (kOf (ri (nb j c)) s).val, 0]) {oO' : Fin 3 → ℕ} {iO'} (eO' : oO' = ![1, 32 * (kOf (ri (nb j c)) s).val, 0])
    {lG lG' lO lO'} {hx hx' hm hm'} {w w' : Vec F S1x1x1x32x2048 .bf16 → Vec F S1x32x2048 .f32} (hw : w = k0_pay48) (hw' : w' = k0_pay48) {k : PUnit.{1} → PG F} {Q : PUnit.{1} → sProp 𝕄} :
    iprop(R ∗ Rtok (F := F) c j s ∗ outE X c Kl ∗ owesE c [])
      ⊢ iprop(((Rend (F := F) c j s ∗ outE X c ((kOf (ri (nb j c)) s, 1) :: (kOf (ri (nb j c)) s, 0) :: Kl) ∗ owesE c []) -∗ run c (k ⟨⟩) Q)
        -∗ run c (Prog.op (.waitDma2 σ src dst h₁ h₂) fun _ =>
            Prog.op (.load mGR (Rect.unit (s := S4x4x2x32x2048) oG S1x1x1x32x2048.size iG).toLoadRect lG) fun v =>
            Prog.op (.load mO (Rect.unit (s := S2x512x2048) oO S1x32x2048.size iO).toLoadRect lO) fun _ =>
            Prog.op (.store mO (Rect.unit (s := S2x512x2048) oO S1x32x2048.size iO) (w v) Finset.univ hx hm) fun _ =>
            Prog.op (.load mGR (Rect.unit (s := S4x4x2x32x2048) oG' S1x1x1x32x2048.size iG').toLoadRect lG') fun v =>
            Prog.op (.load mO (Rect.unit (s := S2x512x2048) oO' S1x32x2048.size iO').toLoadRect lO') fun _ =>
            Prog.op (.store mO (Rect.unit (s := S2x512x2048) oO' S1x32x2048.size iO') (w' v) Finset.univ hx' hm') k) Q) := by
  have hne : ri (nb j c) ≠ ri c := ri_nb_ne j hj c
  unfold Rtok Rend
  iintro ⟨#HR, ⟨Hc, Ha⟩, HO, Hw⟩ Hk
  iapply (dmaWait X c hR (rg (ri (nb j c))) s (isDma_rg c _ hne) [] (above_nil _) hσ hN) $$ [Hc Ha Hw]
  · isplitr; · iexact HR
    isplitl [Hc]; · iexact Hc
    isplitl [Ha] <;> iassumption
  iintro ⟨Hp, Hz, Hw⟩
  ihave Hp := (Entails.of_eq (pay_agrecv X c s (ri (nb j c)))) $$ Hp
  iapply (copyStep X c (ri (nb j c)) s 0 hne Kl eG eO eO hw) $$ [Hp HO]
  · isplitl [Hp] <;> iassumption
  iintro ⟨Hp, HO⟩
  iapply (copyStep X c (ri (nb j c)) s 1 hne _ eG' eO' eO' hw') $$ [Hp HO]
  · isplitl [Hp] <;> iassumption
  iintro ⟨Hp, HO⟩
  iapply Hk
  isplitl [Hp Hz]
  · isplitl [Hp]; · iexists _; iexact Hp
    iexact Hz
  isplitl [HO] <;> iassumption

end Cert.KernelIdeal.Swap

end
-- ==== Proof.Ends.lean ====
/-
  What the kernel's body starts and ends with on one device.
-/
module

public import proofs.«01_k».proof.Proof.Steps

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (X : Ins F) {K : GSem nD τ sig → ℕ} (c : Dev nD) {R : sProp (MT nD τ sig Unit (Elt F) ℕ UU ℕ)} [BI.Persistent R] (hR : Recs X K c R)

/-- What the body starts with on device `c`. -/
def bodyPre : sProp 𝕄 :=
  iprop(inp X c ∗ outE X c [] ∗ (bigSep Finset.univ fun j => Btok (F := F) c j) ∗ cred (tallyAt (barCell c) () 4) ∗ atPos ER (barCell c) 0 ∅ 0 ∗ owesE (F := F) c (ow₀ c)
    ∗ (bigSep Finset.univ fun s => Ytok (F := F) c s) ∗ (bigSep Finset.univ fun s => Atok (F := F) c s)
    ∗ (bigSep Finset.univ fun s => Gtok (F := F) c 1 s) ∗ (bigSep Finset.univ fun s => Gtok (F := F) c 2 s) ∗ (bigSep Finset.univ fun s => Gtok (F := F) c 3 s)
    ∗ (bigSep Finset.univ fun s => Rtok (F := F) c 1 s) ∗ (bigSep Finset.univ fun s => Rtok (F := F) c 2 s) ∗ (bigSep Finset.univ fun s => Rtok (F := F) c 3 s))

/-- What it ends with. -/
def bodyPost : sProp 𝕄 :=
  iprop(inp X c ∗ pt c mO Finset.univ fullShare (outC X c) ∗ semVal (barCell c) 0 ∗ owesE (F := F) c []
    ∗ (bigSep Finset.univ fun s => Yend (F := F) c s) ∗ (bigSep Finset.univ fun s => Aend (F := F) c s) ∗ (bigSep Finset.univ fun s => Gend (F := F) c s)
    ∗ (bigSep Finset.univ fun s => Rend (F := F) c 1 s) ∗ (bigSep Finset.univ fun s => Rend (F := F) c 2 s) ∗ (bigSep Finset.univ fun s => Rend (F := F) c 3 s))

/-- The pieces written, the last one first, are all there are. -/
theorem all_pieces : ∀ (c : Dev nD) (p : Fin 16 × Fin 2), p ∈ ([(kOf (ri (nb 3 c)) 3, 1), (kOf (ri (nb 3 c)) 3, 0), (kOf (ri (nb 3 c)) 2, 1), (kOf (ri (nb 3 c)) 2, 0), (kOf (ri (nb 3 c)) 1, 1), (kOf (ri (nb 3 c)) 1, 0), (kOf (ri (nb 3 c)) 0, 1), (kOf (ri (nb 3 c)) 0, 0), (kOf (ri (nb 2 c)) 3, 1), (kOf (ri (nb 2 c)) 3, 0), (kOf (ri (nb 2 c)) 2, 1), (kOf (ri (nb 2 c)) 2, 0), (kOf (ri (nb 2 c)) 1, 1), (kOf (ri (nb 2 c)) 1, 0), (kOf (ri (nb 2 c)) 0, 1), (kOf (ri (nb 2 c)) 0, 0), (kOf (ri (nb 1 c)) 3, 1), (kOf (ri (nb 1 c)) 3, 0), (kOf (ri (nb 1 c)) 2, 1), (kOf (ri (nb 1 c)) 2, 0), (kOf (ri (nb 1 c)) 1, 1), (kOf (ri (nb 1 c)) 1, 0), (kOf (ri (nb 1 c)) 0, 1), (kOf (ri (nb 1 c)) 0, 0), (kOf (ri c) 3, 1), (kOf (ri c) 3, 0), (kOf (ri c) 2, 1), (kOf (ri c) 2, 0), (kOf (ri c) 1, 1), (kOf (ri c) 1, 0), (kOf (ri c) 0, 1), (kOf (ri c) 0, 0)] : List (Fin 16 × Fin 2)) := by decide +kernel

/-- A body that has nothing left to do. -/
theorem run_ret (Q : PUnit.{1} → sProp 𝕄) : Q ⟨⟩ ⊢ run (F := F) c (Prog.ret ⟨⟩) Q := by
  unfold run
  rw [wp_ret]
  iintro H
  imodintro
  iexact H

theorem end_y (s : Fin 4) : iprop(dmaPay X c 1 s ∗ semVal (dCell c 1 s) 0) ⊢ Yend (F := F) c s := by
  rw [pay_ysend]
  unfold Yend
  iintro ⟨P, Z⟩
  isplitl [P]; · iexists _; iexact P
  iexact Z

theorem end_a (s : Fin 4) : iprop(pt c mPR (slot4 s) fullShare (precvC X c) ∗ semVal (dCell c 2 s) 0) ⊢ Aend (F := F) c s := by
  unfold Aend
  iintro ⟨P, Z⟩
  isplitl [P]; · iexists _; iexact P
  iexact Z

/-- The three shares of a piece sent on come back together. -/
theorem end_g (s : Fin 4) : iprop((dmaPay X c (sg 1) s ∗ semVal (dCell c (sg 1) s) 0) ∗ (dmaPay X c (sg 2) s ∗ semVal (dCell c (sg 2) s) 0)
    ∗ (dmaPay X c (sg 3) s ∗ semVal (dCell c (sg 3) s) 0)) ⊢ Gend (F := F) c s := by
  rw [pay_agsend X c s 1 (by decide), pay_agsend X c s 2 (by decide), pay_agsend X c s 3 (by decide)]
  unfold Gend
  iintro ⟨⟨P1, Z1⟩, ⟨P2, Z2⟩, ⟨P3, Z3⟩⟩
  isplitl [P1 P2 P3]
  · iexists (agsendC X c)
    iapply (shares c).2
    isplitl [P1]; · iexact P1
    isplitl [P2] <;> iassumption
  isplitl [Z1]; · iexact Z1
  isplitl [Z2] <;> iassumption

/-- Once every piece is written the result's buffer holds the result. -/
theorem end_o (Kl : List (Fin 16 × Fin 2)) (hK : ∀ p, p ∈ Kl) : outE X c Kl ⊢ pt c mO Finset.univ fullShare (outC X c) := by
  unfold outE
  iintro ⟨%f, %hf, H⟩
  rw [done_all X c Kl f hf hK]
  iexact H

end Cert.KernelIdeal.Swap

end
-- ==== Proof.Deal.lean ====
/-
  Dealing out the ghost state: what every device is given at launch, how the tokens reach the devices that
  spend them, the launch credit of each cell, and the opening of a device's own cells.
-/
module

public import proofs.«01_k».proof.Proof.Ends
public import Idealize.ShloMosaic.Lib.Rounds.Family

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## The nine groups of a device's transfer semaphores -/

/-- The family over one group. -/
abbrev row (Φ : Fin 10 → Fin 4 → sProp (MT nD τ sig Unit (Elt F) ℕ UU ℕ)) (g : Fin 10) : sProp 𝕄 := bigSep Finset.univ fun s => Φ g s

/-- The nine groups one by one: the receipts' groups are named by the neighbours, the device's own comes last. -/
def nine (c : Dev nD) (Φ : Fin 10 → Fin 4 → sProp (MT nD τ sig Unit (Elt F) ℕ UU ℕ)) : sProp 𝕄 :=
  iprop(row Φ 1 ∗ row Φ 2 ∗ row Φ (sg 1) ∗ row Φ (sg 2) ∗ row Φ (sg 3)
    ∗ row Φ (rg (ri (nb 1 c))) ∗ row Φ (rg (ri (nb 2 c))) ∗ row Φ (rg (ri (nb 3 c))) ∗ row Φ (rg (ri c)))

def nineL (c : Dev nD) : List (Fin 9) :=
  [0, 1, 2, 3, 4, ⟨5 + (ri (nb 1 c)).val, by omega⟩, ⟨5 + (ri (nb 2 c)).val, by omega⟩, ⟨5 + (ri (nb 3 c)).val, by omega⟩, ⟨5 + (ri c).val, by omega⟩]
theorem nineL_all : ∀ c : Dev nD, Finset.univ = (nineL c).toFinset := by decide
theorem nineL_nodup : ∀ c : Dev nD, (nineL c).Nodup := by decide

theorem succ_rg (r : Fin 4) (h : 5 + r.val < 9) : (⟨5 + r.val, h⟩ : Fin 9).succ = rg r := Fin.ext (by simp only [Fin.succ_mk, rg]; omega)

/-- A family over the transfer semaphores is its nine groups. -/
theorem groups (c : Dev nD) (Φ : Fin 10 → Fin 4 → sProp (MT nD τ sig Unit (Elt F) ℕ UU ℕ)) :
    (bigSep Finset.univ fun q : Fin 9 × Fin 4 => Φ q.1.succ q.2) = nine c Φ := by
  rw [bigSep_univ_prod, bigSep_univ_eq_bigSepL (nineL c) (nineL_all c) (nineL_nodup c)]
  unfold nineL
  simp only [bigSepL_cons_cons, bigSepL_singleton, succ_rg]
  rfl

/-- The rows of the gather buffer, the neighbours' first. -/
theorem rows (c : Dev nD) (Ψ : Fin 4 → sProp (MT nD τ sig Unit (Elt F) ℕ UU ℕ)) :
    bigSep Finset.univ Ψ = iprop(Ψ (ri (nb 1 c)) ∗ Ψ (ri (nb 2 c)) ∗ Ψ (ri (nb 3 c)) ∗ Ψ (ri c)) := by
  have h1 : ∀ c : Dev nD, (Finset.univ : Finset (Fin 4)) = [ri (nb 1 c), ri (nb 2 c), ri (nb 3 c), ri c].toFinset := by decide
  have h2 : ∀ c : Dev nD, [ri (nb 1 c), ri (nb 2 c), ri (nb 3 c), ri c].Nodup := by decide
  rw [bigSep_univ_eq_bigSepL _ (h1 c) (h2 c)]
  rfl

/-- A family of pairs is a pair of families. -/
theorem unpair {I : Type} {A B : I → sProp (MT nD τ sig Unit (Elt F) ℕ UU ℕ)} {S : Finset I} :
    (bigSep S fun i => iprop(A i ∗ B i)) ⊢ iprop(bigSep S A ∗ bigSep S B) := Entails.of_eq (bigSep_sep' S A B)
theorem pair {I : Type} {A B : I → sProp (MT nD τ sig Unit (Elt F) ℕ UU ℕ)} {S : Finset I} :
    iprop(bigSep S A ∗ bigSep S B) ⊢ (bigSep S fun i => iprop(A i ∗ B i)) := Entails.of_eq (bigSep_sep' S A B).symm

/-! ## Neighbours exchange -/

/-- Neighbour `j`, as a renaming of the devices. -/
def nbE (j : Fin 4) : Dev nD ≃ Dev nD := ⟨nb j, nb j, nb_nb j, nb_nb j⟩

/-- What every device holds for its neighbour `j`, each neighbour may hold. -/
theorem swap (j : Fin 4) (Φ : Dev nD → Dev nD → sProp (MT nD τ sig Unit (Elt F) ℕ UU ℕ)) :
    (bigSep Finset.univ fun c => Φ c (nb j c)) ⊢ bigSep Finset.univ fun c => Φ (nb j c) c := by
  rw [bigSep_univ_equiv (nbE j) fun c => Φ c (nb j c)]
  exact bigSep_mono fun c _ => Entails.of_eq (by show Φ (nb j c) (nb j (nb j c)) = _; rw [nb_nb])

/-! ## Tokens -/

abbrev Dt (c : Dev nD) (g : Fin 10) (s : Fin 4) : sProp 𝕄 := dutyTok ER (dCell c g s) 0 0

/-- The tokens of the transfers a device makes. -/
def toks (c : Dev nD) : sProp 𝕄 :=
  iprop(row (Dt (F := F) c) 1 ∗ row (Dt (F := F) (nb 0 c)) 2 ∗ row (Dt (F := F) c) (sg 1) ∗ row (Dt (F := F) c) (sg 2) ∗ row (Dt (F := F) c) (sg 3)
    ∗ row (Dt (F := F) (nb 1 c)) (rg (ri c)) ∗ row (Dt (F := F) (nb 2 c)) (rg (ri c)) ∗ row (Dt (F := F) (nb 3 c)) (rg (ri c)))

/-- The tokens of a receipt go to the neighbour that sends. -/
theorem toks_around : (bigSep Finset.univ fun c : Dev nD => nine (F := F) c (Dt c)) ⊢ bigSep Finset.univ fun c : Dev nD => toks (F := F) c := by
  unfold nine toks
  iintro H
  ihave H := unpair $$ H; icases H with ⟨H1, H⟩
  ihave H := unpair $$ H; icases H with ⟨H2, H⟩
  ihave H := unpair $$ H; icases H with ⟨H3, H⟩
  ihave H := unpair $$ H; icases H with ⟨H4, H⟩
  ihave H := unpair $$ H; icases H with ⟨H5, H⟩
  ihave H := unpair $$ H; icases H with ⟨H6, H⟩
  ihave H := unpair $$ H; icases H with ⟨H7, H⟩
  ihave H := unpair $$ H; icases H with ⟨H8, -⟩
  ihave H2 := (swap (F := F) 0 fun c _ => row (Dt c) 2) $$ H2
  ihave H6 := (swap (F := F) 1 fun c d => row (Dt c) (rg (ri d))) $$ H6
  ihave H7 := (swap (F := F) 2 fun c d => row (Dt c) (rg (ri d))) $$ H7
  ihave H8 := (swap (F := F) 3 fun c d => row (Dt c) (rg (ri d))) $$ H8
  iapply pair; isplitl [H1]; · iexact H1
  iapply pair; isplitl [H2]; · iexact H2
  iapply pair; isplitl [H3]; · iexact H3
  iapply pair; isplitl [H4]; · iexact H4
  iapply pair; isplitl [H5]; · iexact H5
  iapply pair; isplitl [H6]; · iexact H6
  iapply pair; isplitl [H7]; · iexact H7
  iexact H8

/-- The tokens of the signals a device makes. -/
def sigToks (c : Dev nD) : sProp 𝕄 := bigSep Finset.univ fun j : Fin 4 => dutyTok ER (barCell (nb j c)) 0 j

def nbE' : Dev nD × Fin 4 ≃ Dev nD × Fin 4 :=
  ⟨fun p => (nb p.2 p.1, p.2), fun p => (nb p.2 p.1, p.2), fun p => Prod.ext (nb_nb p.2 p.1) rfl, fun p => Prod.ext (nb_nb p.2 p.1) rfl⟩

theorem sigToks_around : (bigSep Finset.univ fun p : Dev nD × Fin 4 => (dutyTok ER (barCell p.1) 0 p.2 : sProp 𝕄))
    ⊢ bigSep Finset.univ fun c : Dev nD => sigToks (F := F) c := by
  rw [bigSep_univ_equiv nbE', bigSep_univ_prod]
  exact BI.Entails.refl _

/-! ## The launch's cells and tokens -/

theorem barCell_inj {c d : Dev nD} (h : barCell c = barCell d) : c = d := congrArg (fun g : GSem nD τ sig => g.1.1) h
theorem dCell_inj {c d : Dev nD} {g g' : Fin 10} {s s' : Fin 4} (h : dCell c g s = dCell d g' s') : c = d ∧ g = g' ∧ s = s' := by
  have h2 : (SemLoc.dma (dIx g s) : SemLoc sig) = .dma (dIx g' s') := congrArg Prod.snd h
  injection h2 with h2
  exact ⟨congrArg (fun g : GSem nD τ sig => g.1.1) h, dIx_inj h2⟩
theorem bar_ne_dma (c d : Dev nD) (g : Fin 10) (s : Fin 4) : barCell c ≠ dCell d g s := fun h => by
  have h2 : (SemLoc.reg barS : SemLoc sig) = .dma (dIx g s) := congrArg Prod.snd h
  cases h2

def barEmb : Dev nD ↪ GSem nD τ sig := ⟨fun c => barCell c, fun _ _ h => barCell_inj h⟩
def dmaEmb : Dev nD × (Fin 9 × Fin 4) ↪ GSem nD τ sig :=
  ⟨fun p => dCell p.1 p.2.1.succ p.2.2, fun p q h => by
    obtain ⟨h1, h2, h3⟩ := dCell_inj h
    exact Prod.ext h1 (Prod.ext (Fin.succ_injective _ h2) h3)⟩
/-- The barrier cells are funded with their counters, the transfer cells without. -/
def barCells : Finset (GSem nD τ sig) := Finset.univ.map barEmb
def dmaCells : Finset (GSem nD τ sig) := Finset.univ.map dmaEmb

theorem cells_disj : Disjoint barCells dmaCells := by
  rw [Finset.disjoint_left]
  rintro g h₁ h₂
  obtain ⟨c, -, rfl⟩ := Finset.mem_map.mp h₁
  obtain ⟨p, -, h⟩ := Finset.mem_map.mp h₂
  exact bar_ne_dma c p.1 _ _ h.symm

theorem cells_sub : cells ⊆ barCells ∪ dmaCells := by
  intro g hg
  obtain ⟨⟨c, o⟩, -, rfl⟩ := Finset.mem_image.mp hg
  cases o with
  | none => exact Finset.mem_union_left _ (Finset.mem_map_of_mem barEmb (Finset.mem_univ c))
  | some q => exact Finset.mem_union_right _ (Finset.mem_map_of_mem dmaEmb (Finset.mem_univ (c, q)))

def barTok : Dev nD × Fin 4 ↪ GSem nD τ sig × ℕ × Fin 4 :=
  ⟨fun p => (barCell p.1, 0, p.2), fun p q h => Prod.ext (barCell_inj (congrArg Prod.fst h)) (congrArg (fun x : GSem nD τ sig × ℕ × Fin 4 => x.2.2) h)⟩
def dmaTok : Dev nD × (Fin 9 × Fin 4) ↪ GSem nD τ sig × ℕ × Fin 4 :=
  ⟨fun p => (dmaEmb p, 0, 0), fun p q h => dmaEmb.injective (congrArg Prod.fst h)⟩
def allToks : Finset (GSem nD τ sig × ℕ × Fin 4) := Finset.univ.map barTok ∪ Finset.univ.map dmaTok

theorem toks_disj : Disjoint (Finset.univ.map barTok : Finset (GSem nD τ sig × ℕ × Fin 4)) (Finset.univ.map dmaTok) := by
  rw [Finset.disjoint_left]
  rintro g h₁ h₂
  obtain ⟨c, -, rfl⟩ := Finset.mem_map.mp h₁
  obtain ⟨p, -, h⟩ := Finset.mem_map.mp h₂
  exact bar_ne_dma c.1 p.1 _ _ (congrArg Prod.fst h).symm

/-- Every token, dealt to the device that spends it. -/
theorem toks_deal : (bigSep allToks fun x => (dutyTok ER x.1 x.2.1 x.2.2 : sProp 𝕄))
    ⊢ iprop((bigSep Finset.univ fun c : Dev nD => sigToks (F := F) c) ∗ bigSep Finset.univ fun c : Dev nD => toks (F := F) c) := by
  unfold allToks
  rw [bigSep_union toks_disj, bigSep_map, bigSep_map, bigSep_univ_prod (fun p : Dev nD × (Fin 9 × Fin 4) => (dutyTok ER (dmaTok p).1 (dmaTok p).2.1 (dmaTok p).2.2 : sProp 𝕄))]
  have h : (bigSep Finset.univ fun c : Dev nD => bigSep Finset.univ fun q : Fin 9 × Fin 4 => (dutyTok ER (dmaTok (c, q)).1 (dmaTok (c, q)).2.1 (dmaTok (c, q)).2.2 : sProp 𝕄))
      = bigSep Finset.univ fun c : Dev nD => nine (F := F) c (Dt c) := bigSep_congr fun c _ => groups c (Dt c)
  rw [h]
  show iprop((bigSep Finset.univ fun p : Dev nD × Fin 4 => (dutyTok ER (barCell p.1) 0 p.2 : sProp 𝕄)) ∗ bigSep Finset.univ fun c : Dev nD => nine (F := F) c (Dt c)) ⊢ _
  iintro ⟨H1, H2⟩
  isplitl [H1]
  · iapply (sigToks_around (F := F)) $$ H1
  · iapply (toks_around (F := F)) $$ H2

/-- The rights to open the transfer cells, each with its device. -/
theorem open_deal : (bigSep dmaCells fun g => (openTok ER g : sProp 𝕄))
    = bigSep Finset.univ fun c : Dev nD => bigSep Finset.univ fun q : Fin 9 × Fin 4 => (openTok ER (dCell c q.1.succ q.2) : sProp 𝕄) := by
  unfold dmaCells; rw [bigSep_map, bigSep_univ_prod]; rfl

/-! ## The launch credit -/

/-- A list whose payments to `g` all weigh `w` owes it `w` for each. -/
theorem owe_count (w : ℕ) (g : GSem nD τ sig) (l : List (GSem nD τ sig × ℕ)) (h : ∀ p ∈ l, p.1 = g → p.2 = w) :
    owe l g () = w * (l.map Prod.fst).count g := by
  induction l with
  | nil => exact (Nat.mul_zero w).symm
  | cons p l ih =>
    unfold owe
    rw [Pi.add_apply, Finsupp.add_apply, ih fun q hq => h q (List.mem_cons_of_mem _ hq), tallyAt_apply, List.map_cons, List.count_cons]
    by_cases e : p.1 = g
    · rw [if_pos ⟨e.symm, rfl⟩, if_pos (by simpa using e), h p List.mem_cons_self e, Nat.mul_add, Nat.mul_one]
    · rw [if_neg (fun hh => e hh.1.symm), if_neg (by simpa using e), Nat.add_zero, Nat.add_zero]

/-- What one payment to a semaphore weighs. -/
def wt (sm : SemLoc sig) : ℕ := match sm with | .reg _ => 1 | .dma _ => N

theorem wt_aOw (c : Dev nD) (l : List (Fin 4)) : ∀ p ∈ aOw c l, p.2 = wt p.1.2 := by
  induction l with
  | nil => intro p hp; exact absurd hp List.not_mem_nil
  | cons s l ih =>
    intro p hp
    rcases List.mem_cons.mp hp with rfl | hp
    · rfl
    rcases List.mem_cons.mp hp with rfl | hp
    · rfl
    rcases List.mem_cons.mp hp with rfl | hp
    · rfl
    exact ih p hp

theorem wt_ow₀ (c : Dev nD) : ∀ p ∈ ow₀ c, p.2 = wt p.1.2 := by
  intro p hp
  rcases List.mem_append.mp hp with hp | hp
  · unfold sigs at hp
    simp only [List.mem_cons, List.not_mem_nil, or_false] at hp
    rcases hp with rfl | rfl | rfl | rfl <;> rfl
  · rcases List.mem_append.mp hp with hp | hp
    · obtain ⟨s, -, rfl⟩ := List.mem_map.mp hp
      rfl
    · exact wt_aOw c _ p hp

/-- How many payments to `g` the devices make together. -/
def pays (g : GSem nD τ sig) : ℕ := ∑ d : Dev nD, ((ow₀ d).map Prod.fst).count g

theorem launched (c : Dev nD) (sm : SemLoc sig) (n : ℕ) (h : pays ((c : Thread nD τ), sm) = n) :
    (tallyOn ((c : Thread nD τ), sm) (launchCredit (Pipeline.owing O₀) 0 ((c : Thread nD τ), sm)) : CellTallies nD τ sig Unit)
      = tallyAt ((c : Thread nD τ), sm) () (wt sm * n) := by
  unfold tallyAt; refine congrArg _ (Finsupp.ext fun u => ?_); cases u
  rw [Pipeline.launchCredit_owing, Finsupp.single_eq_same, ← h, pays, Finset.mul_sum]
  exact Finset.sum_congr rfl fun d _ => owe_count _ _ _ fun p hp e => by rw [wt_ow₀ d p hp, e]

/-- Every barrier is signalled four times, every receipt's semaphore credited once. -/
theorem pays_bar : ∀ c : Dev nD, pays (barCell c) = 4 := by decide +kernel
theorem pays_two : ∀ (c : Dev nD) (s : Fin 4), pays (dCell c 2 s) = 1 := by decide +kernel
theorem pays_rg : ∀ (c : Dev nD) (j s : Fin 4), j ≠ 0 → pays (dCell c (rg (ri (nb j c))) s) = 1 := by decide +kernel

abbrev Cr (c : Dev nD) (g : Fin 10) (s : Fin 4) : sProp 𝕄 := cred (tallyAt (dCell c g s) () N)

/-- The credit a device waits with. -/
def credits (c : Dev nD) : sProp 𝕄 :=
  iprop(cred (tallyAt (barCell c) () 4) ∗ row (Cr (F := F) c) 2 ∗ row (Cr (F := F) c) (rg (ri (nb 1 c))) ∗ row (Cr (F := F) c) (rg (ri (nb 2 c)))
    ∗ row (Cr (F := F) c) (rg (ri (nb 3 c))))

def semEmb : Fin 9 × Fin 4 ↪ SemLoc sig :=
  ⟨fun q => .dma (dIx q.1.succ q.2), fun q q' h => by
    injection h with h
    exact Prod.ext (Fin.succ_injective _ (dIx_inj h).1) (dIx_inj h).2⟩

theorem creds (c : Dev nD) : (Pipeline.launchCred O₀ c : sProp 𝕄) ⊢ credits (F := F) c := by
  have hsub : Finset.univ.map semEmb ⊆ (Finset.univ : Finset (SemLoc sig)).erase (SemLoc.reg barS) := by
    intro sm hsm
    obtain ⟨q, -, rfl⟩ := Finset.mem_map.mp hsm
    exact Finset.mem_erase.mpr ⟨fun h => (by cases h), Finset.mem_univ _⟩
  have hg := groups (F := F) c fun g s => cred (tallyOn (dCell c g s) (launchCredit (Pipeline.owing O₀) 0 (dCell c g s)))
  have one : ∀ g s, pays (dCell c g s) = 1 → (cred (tallyOn (dCell c g s) (launchCredit (Pipeline.owing O₀) 0 (dCell c g s))) : sProp 𝕄) = Cr (F := F) c g s := by
    intro g s h
    rw [launched c _ 1 h]
    show cred (tallyAt (dCell c g s) () (N * 1)) = _
    rw [Nat.mul_one]
  have r : ∀ g, (∀ s, pays (dCell c g s) = 1) →
      row (fun g s => (cred (tallyOn (dCell c g s) (launchCredit (Pipeline.owing O₀) 0 (dCell c g s))) : sProp 𝕄)) g = row (Cr (F := F) c) g :=
    fun g h => bigSep_congr fun s _ => one g s (h s)
  unfold Pipeline.launchCred
  rw [bigSep_univ_at _ (SemLoc.reg barS), launched c _ 4 (pays_bar c)]
  refine (sep_mono_right (bigSep_subset hsub)).trans ?_
  rw [bigSep_map]
  refine (sep_mono_right (Entails.of_eq hg)).trans ?_
  unfold nine credits
  rw [r 2 (pays_two c), r (rg (ri (nb 1 c))) (fun s => pays_rg c 1 s (by decide)), r (rg (ri (nb 2 c))) (fun s => pays_rg c 2 s (by decide)),
    r (rg (ri (nb 3 c))) (fun s => pays_rg c 3 s (by decide))]
  iintro ⟨Hb, -, H2, -, -, -, H6, H7, H8, -⟩
  isplitl [Hb]; · iexact Hb
  isplitl [H2]; · iexact H2
  isplitl [H6]; · iexact H6
  isplitl [H7]; · iexact H7
  iexact H8

/-! ## Opening the cells -/

abbrev At (c : Dev nD) (g : Fin 10) (s : Fin 4) : sProp 𝕄 := atPos ER (dCell c g s) 0 ∅ 0
abbrev Zr (c : Dev nD) (g : Fin 10) (s : Fin 4) : sProp 𝕄 := semVal (dCell c g s) 0

variable (X : Ins F)

/-- What all devices know from the launch on. -/
def known (K : GSem nD τ sig → ℕ) : sProp 𝕄 :=
  iprop((bigSep cells fun g => cellInv ER (sch X) (K g) g) ∗ (bigSep Finset.univ fun c : Dev nD => reached ER (barCell c) 0))
instance known_persistent (K : GSem nD τ sig → ℕ) : BI.Persistent (known X K) := by unfold known; infer_instance

/-- What a device holds of the exchange when it reaches the kernel, -/
def closed (c : Dev nD) : sProp 𝕄 :=
  iprop(∃ K, known X K ∗ (bigSep Finset.univ fun q : Fin 9 × Fin 4 => openTok ER (dCell c q.1.succ q.2))
    ∗ atPos ER (barCell c) 0 ∅ 0 ∗ sigToks (F := F) c ∗ toks (F := F) c ∗ credits (F := F) c)
/-- its positions at its transfer cells, -/
def posns (c : Dev nD) : sProp 𝕄 :=
  iprop(row (At (F := F) c) 1 ∗ row (At (F := F) c) 2 ∗ row (At (F := F) c) (sg 1) ∗ row (At (F := F) c) (sg 2) ∗ row (At (F := F) c) (sg 3)
    ∗ row (At (F := F) c) (rg (ri (nb 1 c))) ∗ row (At (F := F) c) (rg (ri (nb 2 c))) ∗ row (At (F := F) c) (rg (ri (nb 3 c))))
/-- and what it holds once its cells are open. The four cells of its own row stay out of use. -/
def opened (c : Dev nD) : sProp 𝕄 :=
  iprop(∃ K, recs X K c ∗ posns (F := F) c ∗ row (Zr (F := F) c) (rg (ri c))
    ∗ atPos ER (barCell c) 0 ∅ 0 ∗ sigToks (F := F) c ∗ toks (F := F) c ∗ credits (F := F) c)

theorem own_close (K : GSem nD τ sig → ℕ) (c : Dev nD) :
    iprop(known X K ∗ row (At (F := F) c) (rg (ri c))) ⊢ (|={Set.univ}=> row (Zr (F := F) c) (rg (ri c)) : sProp 𝕄) := by
  have hk : known X K ⊢ bigSep (Finset.univ : Finset (Fin 4)) fun s => cellInv ER (sch X) (K (dCell c (rg (ri c)) s)) (dCell c (rg (ri c)) s) := by
    unfold known
    iintro ⟨#HI, -⟩
    iapply (bigSep_intro_persistent (R := bigSep cells fun g => cellInv ER (sch X) (K g) g) fun s _ => bigSep_elim (dma_mem c (rg (ri c)) (fun h => absurd (congrArg Fin.val h) (by simp [rg])) s))
    iexact HI
  iintro ⟨Hk, Ha⟩
  iapply (cells_close ER (sch X) Finset.univ (fun s => dCell c (rg (ri c)) s) (fun s => K (dCell c (rg (ri c)) s)) (fun s _ => Set.mem_univ _)
    (fun s _ => id) (fun _ => 0) (fun s _ r _ => duties_none X c (rg (ri c)) s (fun h => h.2 rfl) r))
  iapply pair
  isplitl [Hk]
  · iapply hk $$ Hk
  · iexact Ha

end Cert.KernelIdeal.Swap

end
-- ==== Proof.Open.lean ====
/-
  The kernel's entry and exit on one device: its cells are opened, its exchange buffers cut into the pieces
  that travel; at the end the pieces are mended and the cells' counters given back.
-/
module

public import proofs.«01_k».proof.Proof.Deal

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (X : Ins F)

/-- The kernel's own semaphores. -/
def osem (q : Fin 9 × Fin 4) : SemLoc sig := .dma (dIx q.1.succ q.2)

theorem ownSems_eq (c : Dev nD) : (Pipeline.ownSems0 osem c : sProp 𝕄) = nine (F := F) c (Zr c) := groups c (Zr c)

/-- A device opens its transfer cells; those of its own row are closed again at once. -/
theorem hopen (c : Dev nD) : iprop(closed X c ∗ Pipeline.ownSems0 osem c ∗ levAts L lv) ⊢ (|={Set.univ}=> opened X c : sProp 𝕄) := by
  unfold closed opened
  iintro ⟨⟨%K, #HK, Ho, Ha, Hs, Ht, Hc⟩, Hz, #Hl⟩
  have hinv : known X K ⊢ bigSep (Finset.univ : Finset (Fin 9 × Fin 4)) fun q => cellInv ER (sch X) (K (dCell c q.1.succ q.2)) (dCell c q.1.succ q.2) := by
    unfold known
    iintro ⟨#HI, -⟩
    iapply (bigSep_intro_persistent (R := bigSep cells fun g => cellInv ER (sch X) (K g) g) fun q _ => bigSep_elim (dma_mem c q.1.succ (Fin.succ_ne_zero _) q.2))
    iexact HI
  imod (cells_open ER (sch X) Finset.univ (fun q : Fin 9 × Fin 4 => dCell c q.1.succ q.2) (fun q => K (dCell c q.1.succ q.2)) (Es := Set.univ)
    (fun _ _ => Set.mem_univ _)) $$ [Ho Hz] with H
  · isplitl [Ho]
    · iapply pair
      isplitr
      · iapply hinv; iexact HK
      · iexact Ho
    · have hz : (Pipeline.ownSems0 osem c : sProp 𝕄) ⊢ bigSep (Finset.univ : Finset (Fin 9 × Fin 4)) fun q => semVal (dCell c q.1.succ q.2) 0 := Entails.refl _
      iapply hz $$ Hz
  ihave H := unpair $$ H
  icases H with ⟨HA, #HR⟩
  ihave HA := (Entails.of_eq (groups c (At (F := F) c))) $$ HA
  unfold nine
  icases HA with ⟨A1, A2, A3, A4, A5, A6, A7, A8, A9⟩
  imod (own_close X K c) $$ [A9] with HZ
  · isplitr; · iexact HK
    iexact A9
  imodintro
  iexists K
  unfold known recs posns
  icases HK with ⟨#HI, #HB⟩
  isplitr
  · isplitr; · iexact HI
    isplitr; · iexact HB
    isplitr; · iexact HR
    iexact Hl
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [HZ]; · iexact HZ
  isplitl [Ha]; · iexact Ha
  isplitl [Hs]; · iexact Hs
  isplitl [Ht]; · iexact Ht
  iexact Hc

/-! ## Cutting and mending buffers -/

section Cut

variable {ℓ : Loc nD τ sig} {T : Type} [Fintype T] [DecidableEq T] (P : T → Finset (Idx ℓ))
  (hd : ∀ t t', t ≠ t' → Disjoint (P t) (P t')) (hu : ∀ i, ∃ t, i ∈ P t)

include hu in
theorem cover : Finset.univ.biUnion P = Finset.univ :=
  Finset.eq_univ_iff_forall.mpr fun i => let ⟨t, ht⟩ := hu i; Finset.mem_biUnion.mpr ⟨t, Finset.mem_univ _, ht⟩

include hd hu in
/-- A whole buffer at some contents is its parts, each at some contents. -/
theorem cut : iprop(∃ f : Buf (Elt F) ℓ, ℓ ↦[Finset.univ]{fullShare} f) ⊢ (bigSep Finset.univ fun t => iprop(∃ f : Buf (Elt F) ℓ, ℓ ↦[P t]{fullShare} f) : sProp 𝕄) := by
  iintro ⟨%f, H⟩
  have h : (ℓ ↦[Finset.univ]{fullShare} f : sProp 𝕄) ⊢ bigSep Finset.univ fun t => iprop(∃ f : Buf (Elt F) ℓ, ℓ ↦[P t]{fullShare} f) := by
    rw [← cover P hu, pointsTo_biUnion Finset.univ P fun t _ t' _ => hd t t']
    exact bigSep_mono fun t _ => show (ℓ ↦[P t]{fullShare} f : sProp 𝕄) ⊢ iprop(∃ f : Buf (Elt F) ℓ, ℓ ↦[P t]{fullShare} f) from by iintro H; iexists f; iexact H
  iapply h $$ H

include hd hu in
theorem mend : (bigSep Finset.univ fun t => iprop(∃ f : Buf (Elt F) ℓ, ℓ ↦[P t]{fullShare} f) : sProp 𝕄) ⊢ iprop(∃ f : Buf (Elt F) ℓ, ℓ ↦[Finset.univ]{fullShare} f) := by
  refine (bigSep_exists_pi Finset.univ fun t (f : Buf (Elt F) ℓ) => (ℓ ↦[P t]{fullShare} f : sProp 𝕄)).trans ?_
  iintro ⟨%fs, H⟩
  ihave H := (pointsTo_biUnion_join Finset.univ P fs (fun _ => default) fun t _ t' _ => hd t t') $$ H
  rw [cover P hu]
  icases H with ⟨%g, -, H⟩
  iexists g; iexact H

end Cut

theorem slot4_disj (s s' : Fin 4) (h : s ≠ s') : Disjoint (slot4 s) (slot4 s') := by
  rw [Finset.disjoint_left]
  intro i h1 h2
  exact h ((mem_slot4.mp h1).symm.trans (mem_slot4.mp h2))
theorem slot4_all (i : S4x2x32x2048.Idx) : ∃ s, i ∈ slot4 s := ⟨i 0, mem_slot4.mpr rfl⟩
theorem slot44_disj (p p' : Fin 4 × Fin 4) (h : p ≠ p') : Disjoint (slot44 p.1 p.2) (slot44 p'.1 p'.2) := by
  rw [Finset.disjoint_left]
  intro i h1 h2
  have a := mem_slot44.mp h1
  have b := mem_slot44.mp h2
  exact h (Prod.ext (a.1.symm.trans b.1) (a.2.symm.trans b.2))
theorem slot44_all (i : S4x4x2x32x2048.Idx) : ∃ p : Fin 4 × Fin 4, i ∈ slot44 p.1 p.2 := ⟨(i 0, i 1), mem_slot44.mpr ⟨rfl, rfl⟩⟩

/-- A four-piece buffer, whole and in pieces. -/
abbrev whole4 (c : Dev nD) (m : Memref sig .tc .vmem S4x2x32x2048 .bf16) : sProp 𝕄 := iprop(∃ f, pt c m Finset.univ fullShare f)
abbrev gat (c : Dev nD) (r s : Fin 4) : sProp 𝕄 := iprop(∃ f, pt c mGR (slot44 r s) fullShare f)

/-- The scratch buffers, each whole at some contents. -/
def scratch (c : Dev nD) : sProp 𝕄 := iprop((∃ f, pt c mPS Finset.univ fullShare f) ∗ (∃ f, pt c mPR Finset.univ fullShare f) ∗ (∃ f, pt c mAS Finset.univ fullShare f) ∗ (∃ f, pt c mGR Finset.univ fullShare f))
/-- The same in pieces. -/
def pieces (c : Dev nD) : sProp 𝕄 :=
  iprop((bigSep Finset.univ fun s => iprop(∃ f, pt c mPS (slot4 s) fullShare f)) ∗ (bigSep Finset.univ fun s => iprop(∃ f, pt c mPR (slot4 s) fullShare f))
    ∗ (bigSep Finset.univ fun s => iprop(∃ f, pt c mAS (slot4 s) fullShare f))
    ∗ (bigSep Finset.univ fun s => gat (F := F) c (ri (nb 1 c)) s) ∗ (bigSep Finset.univ fun s => gat (F := F) c (ri (nb 2 c)) s)
    ∗ (bigSep Finset.univ fun s => gat (F := F) c (ri (nb 3 c)) s) ∗ (bigSep Finset.univ fun s => gat (F := F) c (ri c) s))

theorem gat_eq (c : Dev nD) : (bigSep Finset.univ fun p : Fin 4 × Fin 4 => gat (F := F) c p.1 p.2)
    = iprop((bigSep Finset.univ fun s => gat (F := F) c (ri (nb 1 c)) s) ∗ (bigSep Finset.univ fun s => gat (F := F) c (ri (nb 2 c)) s)
    ∗ (bigSep Finset.univ fun s => gat (F := F) c (ri (nb 3 c)) s) ∗ (bigSep Finset.univ fun s => gat (F := F) c (ri c) s)) := by
  rw [bigSep_univ_prod]
  exact rows c fun r => bigSep Finset.univ fun s => gat (F := F) c r s

theorem cut_all (c : Dev nD) : scratch (F := F) c ⊢ pieces (F := F) c := by
  unfold scratch pieces
  iintro ⟨H1, H2, H3, H4⟩
  isplitl [H1]; · iapply (cut (F := F) (ℓ := mPS.view.loc (c : Thread nD τ)) slot4 slot4_disj slot4_all) $$ H1
  isplitl [H2]; · iapply (cut (F := F) (ℓ := mPR.view.loc (c : Thread nD τ)) slot4 slot4_disj slot4_all) $$ H2
  isplitl [H3]; · iapply (cut (F := F) (ℓ := mAS.view.loc (c : Thread nD τ)) slot4 slot4_disj slot4_all) $$ H3
  iapply (Entails.of_eq (gat_eq (F := F) c))
  iapply (cut (F := F) (ℓ := mGR.view.loc (c : Thread nD τ)) (fun p : Fin 4 × Fin 4 => slot44 p.1 p.2) slot44_disj slot44_all) $$ H4

theorem mend_all (c : Dev nD) : pieces (F := F) c ⊢ scratch (F := F) c := by
  unfold scratch pieces
  iintro ⟨H1, H2, H3, H4⟩
  isplitl [H1]; · iapply (mend (F := F) (ℓ := mPS.view.loc (c : Thread nD τ)) slot4 slot4_disj slot4_all) $$ H1
  isplitl [H2]; · iapply (mend (F := F) (ℓ := mPR.view.loc (c : Thread nD τ)) slot4 slot4_disj slot4_all) $$ H2
  isplitl [H3]; · iapply (mend (F := F) (ℓ := mAS.view.loc (c : Thread nD τ)) slot4 slot4_disj slot4_all) $$ H3
  ihave H4 := (Entails.of_eq (gat_eq (F := F) c).symm) $$ H4
  iapply (mend (F := F) (ℓ := mGR.view.loc (c : Thread nD τ)) (fun p : Fin 4 × Fin 4 => slot44 p.1 p.2) slot44_disj slot44_all) $$ H4

/-! ## What the signals hand over -/

theorem land_own (c : Dev nD) (s : Fin 4) : iprop((∃ f, pt (F := F) c mPR (slot4 s) fullShare f) ∗ reached ER (dCell c 2 s) 0) ⊢ land (F := F) 0 (nb 0 c) s := by
  unfold land; rw [if_pos rfl, nb_nb]
theorem land_other (c : Dev nD) (j s : Fin 4) (hj : j ≠ 0) :
    iprop(gat (F := F) c (ri (nb j c)) s ∗ reached ER (dCell c (rg (ri (nb j c))) s) 0) ⊢ land (F := F) j (nb j c) s := by
  unfold land; rw [if_neg hj, nb_nb]

variable {K : GSem nD τ sig → ℕ} (c : Dev nD)

theorem pay_own : iprop(recs X K c ∗ bigSep Finset.univ fun s => iprop(∃ f, pt (F := F) c mPR (slot4 s) fullShare f)) ⊢ barPay (F := F) (nb 0 c) 0 := by
  unfold barPay
  refine bigSep_with_persistent fun s _ => ?_
  iintro ⟨#HR, H⟩
  iapply (land_own (F := F) c s)
  isplitl [H]; · iexact H
  iapply ((recs_ok X K c).rdma 2 (by decide) s); iexact HR
theorem pay_other (j : Fin 4) (hj : j ≠ 0) : iprop(recs X K c ∗ bigSep Finset.univ fun s => gat (F := F) c (ri (nb j c)) s) ⊢ barPay (F := F) (nb j c) j := by
  unfold barPay
  refine bigSep_with_persistent fun s _ => ?_
  iintro ⟨#HR, H⟩
  iapply (land_other (F := F) c j s hj)
  isplitl [H]; · iexact H
  iapply ((recs_ok X K c).rdma (rg (ri (nb j c))) (fun h => absurd (congrArg Fin.val h) (by simp [rg])) s); iexact HR

/-- The result's buffer before anything is written. -/
theorem out_start : iprop(∃ f, pt (F := F) c mO Finset.univ fullShare f) ⊢ outE X c [] := by
  unfold outE
  iintro ⟨%f, H⟩
  iexists f
  isplitr; · ipureintro; intro p hp; exact absurd hp List.not_mem_nil
  iexact H

/-- The device's holdings, arranged as the body takes them; the own row's pieces and counters stay aside. -/
theorem body_start : iprop(recs X K c ∗ (posns (F := F) c ∗ atPos ER (barCell c) 0 ∅ 0 ∗ sigToks (F := F) c ∗ toks (F := F) c ∗ credits (F := F) c)
      ∗ scratch (F := F) c ∗ inp X c ∗ (∃ f, pt c mO Finset.univ fullShare f) ∗ owesE (F := F) c (ow₀ c))
    ⊢ iprop(bodyPre X c ∗ bigSep Finset.univ fun s => gat (F := F) c (ri c) s) := by
  iintro ⟨#HR, ⟨HP, Ha, Hs, Ht, Hc⟩, Hb, Hi, Hout, HO⟩
  ihave Hb := (cut_all (F := F) c) $$ Hb
  unfold posns sigToks toks credits pieces bodyPre Btok Ytok Atok Gtok Rtok
  icases HP with ⟨P1, P2, P3, P4, P5, P6, P7, P8⟩
  icases Ht with ⟨T1, T2, T3, T4, T5, T6, T7, T8⟩
  icases Hc with ⟨C, C2, C6, C7, C8⟩
  icases Hb with ⟨B1, B2, B3, B6, B7, B8, B9⟩
  isplitr [B9]
  rotate_left
  · iexact B9
  isplitl [Hi]; · iexact Hi
  isplitl [Hout]; · iapply (out_start X c) $$ Hout
  isplitl [B2 B6 B7 B8 Hs]
  · iapply pair
    isplitr [Hs]
    · iapply (Entails.of_eq (bigSep_four fun j => barPay (F := F) (nb j c) j).symm)
      isplitl [B2]
      · iapply (pay_own X c); isplitr; · iexact HR
        iexact B2
      isplitl [B6]
      · iapply (pay_other X c 1 (by decide)); isplitr; · iexact HR
        iexact B6
      isplitl [B7]
      · iapply (pay_other X c 2 (by decide)); isplitr; · iexact HR
        iexact B7
      iapply (pay_other X c 3 (by decide)); isplitr; · iexact HR
      iexact B8
    · iexact Hs
  isplitl [C]; · iexact C
  isplitl [Ha]; · iexact Ha
  isplitl [HO]; · iexact HO
  isplitl [B1 T1 T2 P1]
  · iapply pair; isplitl [B1]; · iexact B1
    iapply pair; isplitl [T1]; · iexact T1
    iapply pair; isplitl [T2]; · iexact T2
    iexact P1
  isplitl [B3 C2 P2]
  · iapply pair; isplitl [B3]; · iexact B3
    iapply pair; isplitl [C2]; · iexact C2
    iexact P2
  isplitl [T3 T6 P3]
  · iapply pair; isplitl [T3]; · iexact T3
    iapply pair; isplitl [T6]; · iexact T6
    iexact P3
  isplitl [T4 T7 P4]
  · iapply pair; isplitl [T4]; · iexact T4
    iapply pair; isplitl [T7]; · iexact T7
    iexact P4
  isplitl [T5 T8 P5]
  · iapply pair; isplitl [T5]; · iexact T5
    iapply pair; isplitl [T8]; · iexact T8
    iexact P5
  isplitl [C6 P6]
  · iapply pair; isplitl [C6]; · iexact C6
    iexact P6
  isplitl [C7 P7]
  · iapply pair; isplitl [C7]; · iexact C7
    iexact P7
  iapply pair; isplitl [C8]; · iexact C8
  iexact P8

/-- What the body leaves, arranged as the launch takes it back. -/
theorem body_finish : iprop(bodyPost X c ∗ (bigSep Finset.univ fun s => gat (F := F) c (ri c) s) ∗ row (Zr (F := F) c) (rg (ri c)))
    ⊢ iprop(inp X c ∗ pt c mO Finset.univ fullShare (outC X c) ∗ semVal (barCell c) 0 ∗ owesE (F := F) c [] ∗ scratch (F := F) c ∗ Pipeline.ownSems0 osem c) := by
  rw [ownSems_eq]
  unfold bodyPost Yend Aend Gend Rend nine
  iintro ⟨⟨Hi, Ho, Hb, HO, HY, HA, HG, H1, H2, H3⟩, B9, Z9⟩
  ihave HY := unpair $$ HY; icases HY with ⟨B1, Z1⟩
  ihave HA := unpair $$ HA; icases HA with ⟨B2, Z2⟩
  ihave HG := unpair $$ HG; icases HG with ⟨B3, HG⟩
  ihave HG := unpair $$ HG; icases HG with ⟨Z3, HG⟩
  ihave HG := unpair $$ HG; icases HG with ⟨Z4, Z5⟩
  ihave H1 := unpair $$ H1; icases H1 with ⟨B6, Z6⟩
  ihave H2 := unpair $$ H2; icases H2 with ⟨B7, Z7⟩
  ihave H3 := unpair $$ H3; icases H3 with ⟨B8, Z8⟩
  isplitl [Hi]; · iexact Hi
  isplitl [Ho]; · iexact Ho
  isplitl [Hb]; · iexact Hb
  isplitl [HO]; · iexact HO
  isplitl [B1 B2 B3 B6 B7 B8 B9]
  · iapply (mend_all (F := F) c)
    unfold pieces
    isplitl [B1]; · iexact B1
    isplitl [B2]; · iexact B2
    isplitl [B3]; · iexact B3
    isplitl [B6]; · iexact B6
    isplitl [B7]; · iexact B7
    isplitl [B8]; · iexact B8
    iexact B9
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  iexact Z9

end Cert.KernelIdeal.Swap

end
-- ==== Proof.Region.lean ====
/-
  The kernel call on every device: the windows' contents before and after, the obligation on the body, and
  the call as a segment of the program.
-/
module

public import proofs.«01_k».proof.Proof.Open
public import Idealize.ShloMosaic.Lib.Pipeline.Frame
public import Idealize.ShloMosaic.Lib.Pipeline.ValueKit.Geometry
public import Idealize.ShloMosaic.Lib.Pipeline.RegionTalk

@[expose] public section

set_option maxRecDepth 16384

noncomputable section

namespace Cert.KernelIdeal.Swap

open Idealize.ShloMosaic Idealize.ShloMosaic.TcCoe Idealize.ShloMosaic.ValueIdx Idealize.ShloMosaic.Rounds
open Idealize.ShloMosaic.Pipeline (Dat BodyObligation RegionSeg)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The body runs on device `c` from what it starts with to what it ends with. -/
def BodyRuns (F : FTy → Type) [FloatOps F] : Prop :=
  ∀ (X : Ins F) (K : GSem nD τ sig → ℕ) (c : Dev nD) (Q : PUnit.{1} → sProp (MT nD τ sig Unit (Elt F) ℕ UU ℕ)),
    iprop(recs X K c ∗ bodyPre X c ∗ (bodyPost X c -∗ Q ⟨⟩))
      ⊢ run c (cc0_body mP (Memref.isWhole_whole _) mM (Memref.isWhole_whole _) mW (Memref.isWhole_whole _) mO (Memref.isWhole_whole _)
          mPS (Memref.isWhole_whole _) mPR (Memref.isWhole_whole _) mAS (Memref.isWhole_whole _) mGR (Memref.isWhole_whole _)
          cc0_scratch4 cc0_scratch5 cc0_scratch6 cc0_scratch7) Q

variable (W1 : Dev nD → Valuation τ sig (Elt F))

/-- The kernel's inputs, as the buffers hold them when it is called. -/
def insOf : Ins F := ⟨fun c => W1 c main_v26, fun c => W1 c main_v31, fun c => W1 c main_arg1⟩
/-- The buffers after the call: the result's buffer holds the result. -/
def W2 (c : Dev nD) : Valuation τ sig (Elt F) := Function.update (W1 c) main_v32 (outC (insOf W1) c)

/-- A device's prng register, at some state. -/
abbrev prng (c : Dev nD) : sProp 𝕄 := iprop(∃ r, prngReg c r)

def dats (_ : Fin 1) (c : Dev nD) : Dat τ (Elt F) Unit ℕ UU ℕ cfg0 c where
  A w := W1 c (Proc.devRef .tc (Pipeline.arrRef spec0 w))
  after w _ := match w with
    | ⟨0, _⟩ => (insOf W1).peer c
    | ⟨1, _⟩ => (insOf W1).mine c
    | ⟨2, _⟩ => (insOf W1).wo c
    | ⟨3, _⟩ => outC (insOf W1) c
    | ⟨_ + 4, h⟩ => absurd h (Nat.not_lt.2 (Nat.le_add_left _ _))
  Φ t := match t with
    | ⟨0, _⟩ => iprop(opened (insOf W1) c ∗ scratch (F := F) c ∗ prng (F := F) c)
    | ⟨_ + 1, _⟩ => iprop(semVal (barCell c) 0 ∗ scratch (F := F) c ∗ Pipeline.ownSems0 osem c ∗ prng (F := F) c)
  q _ := fullShare
  owed t := match t with
    | ⟨0, _⟩ => O₀ c
    | ⟨_ + 1, _⟩ => 0

theorem share_eq (c : Dev nD) (w : Fin cfg0.W) : (dats W1 0 c).share w = fullShare := by unfold Dat.share; split <;> rfl

theorem index_zero : ∀ (w : Fin 4) (a : Fin (cfg0.win w).shape.rank), (cfg0.win w).index t0_0 a = 0 := by decide +kernel

theorem before_0 (c : Dev nD) (d) : (dats W1 0 c).before (0 : Fin 4) t0_0 d = (insOf W1).peer c := by
  rw [(dats W1 0 c).before_fetched _ _ (fetch0_0 _)]
  funext y
  show W1 c main_v26 (((cfg0.win (0 : Fin 4)).rect t0_0).emb y) = W1 c main_v26 y
  congr 1
  funext a; apply Fin.ext
  exact Pipeline.Window.rect_emb_val_of_index_zero _ _ _ (index_zero 0 a) y
theorem before_1 (c : Dev nD) (d) : (dats W1 0 c).before (1 : Fin 4) t0_0 d = (insOf W1).mine c := by
  rw [(dats W1 0 c).before_fetched _ _ (fetch0_1 _)]
  funext y
  show W1 c main_v31 (((cfg0.win (1 : Fin 4)).rect t0_0).emb y) = W1 c main_v31 y
  congr 1
  funext a; apply Fin.ext
  exact Pipeline.Window.rect_emb_val_of_index_zero _ _ _ (index_zero 1 a) y
theorem before_2 (c : Dev nD) (d) : (dats W1 0 c).before (2 : Fin 4) t0_0 d = (insOf W1).wo c := by
  rw [(dats W1 0 c).before_fetched _ _ (fetch0_2 _)]
  funext y
  show W1 c main_arg1 (((cfg0.win (2 : Fin 4)).rect t0_0).emb y) = W1 c main_arg1 y
  congr 1
  funext a; apply Fin.ext
  exact Pipeline.Window.rect_emb_val_of_index_zero _ _ _ (index_zero 2 a) y

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

/-- What the call's one point starts with, -/
def obPre (c : Dev nD) : sProp 𝕄 :=
  iprop((opened (insOf W1) c ∗ scratch (F := F) c ∗ prng (F := F) c) ∗ (dats W1 0 c).owesAt () t0_0.castSucc
    ∗ (∃ d, stg c cc0_stg0_0 ((dats W1 0 c).before (0 : Fin 4) t0_0 d)) ∗ (∃ d, stg c cc0_stg1_0 ((dats W1 0 c).before (1 : Fin 4) t0_0 d))
    ∗ (∃ d, stg c cc0_stg2_0 ((dats W1 0 c).before (2 : Fin 4) t0_0 d)) ∗ (∃ d, stg c cc0_stg3_0 ((dats W1 0 c).before (3 : Fin 4) t0_0 d)))
/-- and ends with. -/
def obPost (c : Dev nD) : sProp 𝕄 :=
  iprop((semVal (barCell c) 0 ∗ scratch (F := F) c ∗ Pipeline.ownSems0 osem c ∗ prng (F := F) c) ∗ (dats W1 0 c).owesAt () t0_0.succ
    ∗ stg c cc0_stg0_0 ((insOf W1).peer c) ∗ stg c cc0_stg1_0 ((insOf W1).mine c) ∗ stg c cc0_stg2_0 ((insOf W1).wo c) ∗ stg c cc0_stg3_0 (outC (insOf W1) c))

theorem ob_run (hb : BodyRuns F) (c : Dev nD) :
    obPre W1 c ⊢ run c (cc0_body mP (Memref.isWhole_whole _) mM (Memref.isWhole_whole _) mW (Memref.isWhole_whole _) mO (Memref.isWhole_whole _)
          mPS (Memref.isWhole_whole _) mPR (Memref.isWhole_whole _) mAS (Memref.isWhole_whole _) mGR (Memref.isWhole_whole _)
          cc0_scratch4 cc0_scratch5 cc0_scratch6 cc0_scratch7) fun _ => obPost W1 c := by
  unfold obPre opened
  iintro ⟨⟨⟨%K, #HR, HP, HZ, Hl⟩, Hs, Hp⟩, HO, ⟨%d0, %g0, %h0, H0⟩, ⟨%d1, %g1, %h1, H1⟩, ⟨%d2, %g2, %h2, H2⟩, ⟨%d3, %g3, -, H3⟩⟩
  rw [before_0] at h0
  rw [before_1] at h1
  rw [before_2] at h2
  subst h0 h1 h2
  unfold Dat.owesAt Pipeline.owesWithin
  icases HO with ⟨%W, -, HO⟩
  rw [show (dats W1 0 c).owed t0_0.castSucc = O₀ c from rfl]
  ihave HS := (body_start (insOf W1) c (K := K)) $$ [HP Hl Hs H0 H1 H2 H3 HO]
  · isplitr; · iexact HR
    isplitl [HP Hl]
    · isplitl [HP]; · iexact HP
      iexact Hl
    isplitl [Hs]; · iexact Hs
    isplitl [H0 H1 H2]
    · unfold inp
      isplitl [H0]; · iexact H0
      isplitl [H1]; · iexact H1
      iexact H2
    isplitl [H3]; · iexists g3; iexact H3
    unfold owesE
    iexists W; iexact HO
  icases HS with ⟨HB, B9⟩
  iapply (hb (insOf W1) K c fun _ => obPost W1 c)
  isplitr; · iexact HR
  isplitl [HB]; · iexact HB
  iintro HE
  ihave HF := (body_finish (insOf W1) c) $$ [HE B9 HZ]
  · isplitl [HE]; · iexact HE
    isplitl [B9]; · iexact B9
    iexact HZ
  unfold obPost inp owesE Dat.owesAt Pipeline.owesWithin
  icases HF with ⟨⟨H0, H1, H2⟩, H3, Hb, ⟨%W', HO⟩, Hs, Hz⟩
  isplitl [Hb Hs Hz Hp]
  · isplitl [Hb]; · iexact Hb
    isplitl [Hs]; · iexact Hs
    isplitl [Hz]; · iexact Hz
    iexact Hp
  isplitl [HO]
  · rw [show (dats W1 0 c).owed t0_0.succ = owe [] from rfl]
    iexists W'
    isplitr; · ipureintro; exact fun _ _ => Or.inl trivial
    iexact HO
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  iexists _; isplitr
  swap; · iexact H3
  ipureintro; rfl

set_option maxHeartbeats 1000000 in
theorem body_obligation (hb : BodyRuns F) (c : Dev nD) : BodyObligation (dats W1 0 c) (defs₀ (F := F)) 𝒱₀ () Set.univ := fun t => by
  rw [fin_N0 t]
  rw [bigSep_W0, bigSep_W0]
  simp only [owns_whole_eq]
  exact ob_run W1 hb c

/-- The buffers that are no window's. -/
abbrev rest : Finset (DevRef τ sig) := Pipeline.ucRefs τ sig \ Pipeline.arrRefs (τ := τ) (pcfgs (F := F) 0).spec

theorem out_mem : Proc.devRef .tc main_v32 ∈ Pipeline.arrRefs (τ := τ) (pcfgs (F := F) 0).spec := by
  unfold Pipeline.arrRefs
  exact Finset.mem_map_of_mem _ (Finset.mem_image_of_mem _ (Finset.mem_univ (3 : Fin 4)))

theorem hrest (c : Dev nD) : ∀ b ∈ rest (F := F) \ ∅, W2 W1 c b = W1 c b := by
  intro b hb
  unfold W2
  refine Function.update_of_ne ?_ _ _
  rintro rfl
  exact (Finset.mem_sdiff.mp (Finset.mem_sdiff.mp hb).1).2 out_mem

theorem hin (c : Dev nD) : iprop(Pipeline.scopedRest (Pipeline.pin (pcfgs (F := F)) adm 0).spec c ∗ (∃ r, prngReg c r)
    ∗ StableHlo.held (c.tc : Thread nD τ) ∅ (W1 c) ∗ opened (insOf W1) c) ⊢ (dats W1 0 c).Φ 0 := by
  show iprop(Pipeline.scopedRest spec0 c ∗ (∃ r, prngReg c r) ∗ StableHlo.held (c.tc : Thread nD τ) ∅ (W1 c) ∗ opened (insOf W1) c)
    ⊢ iprop(opened (insOf W1) c ∗ scratch (F := F) c ∗ prng (F := F) c)
  rw [scopedRest0_eq]
  iintro ⟨Hs, Hp, -, Ho⟩
  isplitl [Ho]; · iexact Ho
  isplitl [Hs]
  · unfold scratch
    iexact Hs
  iexact Hp

theorem hout (c : Dev nD) : (dats W1 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 W1 c)
      ∗ Pipeline.ownSems0 osem c ∗ semVal (barCell c) 0) := by
  show iprop(semVal (barCell c) 0 ∗ scratch (F := F) c ∗ Pipeline.ownSems0 osem c ∗ prng (F := F) c)
    ⊢ iprop(Pipeline.scopedRest spec0 c ∗ (∃ r, prngReg c r) ∗ StableHlo.held (c.tc : Thread nD τ) ∅ (W2 W1 c) ∗ Pipeline.ownSems0 osem c ∗ semVal (barCell c) 0)
  rw [scopedRest0_eq]
  iintro ⟨Hb, Hs, Ho, Hp⟩
  isplitl [Hs]
  · unfold scratch
    iexact Hs
  isplitl [Hp]; · iexact Hp
  isplitr
  · unfold StableHlo.held
    rw [BI.bigSep_empty]
    iempintro
  isplitl [Ho]; · iexact Ho
  iexact Hb

theorem arr_out (c : Dev nD) : (dats W1 0 c).arrAt (3 : Fin 4) cfg0.N = outC (insOf W1) c :=
  (dats W1 0 c).arrAt_eq_of_after_last (3 : Fin 4) t0_0 (by decide +kernel) (outC (insOf W1) c) fun _ => rfl

theorem W2_out (c : Dev nD) : W2 W1 c main_v32 = outC (insOf W1) c := by
  unfold W2
  exact Function.update_self _ _ _

theorem hW' (c : Dev nD) (w : Fin 4) : (dats W1 0 c).arrAt w cfg0.N = W2 W1 c (Proc.devRef .tc (Pipeline.arrRef spec0 w)) := by
  fin_cases w
  · rw [(dats W1 0 c).arrAt_in _ rfl _]
    exact (Function.update_of_ne (StableHlo.devRef_ne_of_ne (by decide)) _ _).symm
  · rw [(dats W1 0 c).arrAt_in _ rfl _]
    exact (Function.update_of_ne (StableHlo.devRef_ne_of_ne (by decide)) _ _).symm
  · rw [(dats W1 0 c).arrAt_in _ rfl _]
    exact (Function.update_of_ne (StableHlo.devRef_ne_of_ne (by decide)) _ _).symm
  · refine (arr_out W1 c).trans ?_
    exact (W2_out W1 c).symm

theorem stage_level : ∀ (c : Dev nD) (w : Fin 4) (s : Fin ((cfg0.win w).nbuf)),
    lv ((c : Thread nD τ), .dma ((cfg0.win w).sem s)) () ≤ 0 := by decide +kernel

theorem owed_cut (c : Dev nD) (t : Fin (cfg0.N + 1)) (g : GSem nD τ sig) (i : Unit) (h : 0 < (dats W1 0 c).owed t g i) : i ∈ L g ∧ 0 < lv g i := by
  obtain ⟨t, ht⟩ := t
  cases t with
  | zero => exact owe_pos (above_ow₀ c) g i h
  | succ t => exact absurd h (Nat.lt_irrefl 0)

set_option backward.isDefEq.respectTransparency.types false in
/-- The call. -/
def reg (hb : BodyRuns F) : RegionSeg (pcfgs (F := F)) adm (dats W1) () defs₀ 𝒱₀ L lv 0 :=
  Pipeline.RegionSeg.ofTalk (pcfgs (F := F)) adm (dats W1) () defs₀ 𝒱₀ L lv 0 osem (by decide : Pipeline.OwnSemFacts spec0 osem)
    ∅ (rest (F := F)) (Finset.empty_subset _) launch0.toP rfl (fun c => (body_obligation W1 hb c).loose)
    (fun _ => 0) O₀ (fun c => (zero_add (O₀ c)).symm) (fun _ => rfl) (fun _ => rfl) (share_eq W1)
    W1 (W2 W1) (hrest W1)
    (closed (insOf W1)) (fun c => semVal (barCell c) 0) (opened (insOf W1)) (fun c => semVal (barCell c) 0)
    (hopen (insOf W1)) (hin W1) (hout W1)
    (fun c => by iintro H; imodintro; iexact H)
    (fun _ => 0)
    ⟨fun c w s => Finset.mem_singleton_self (), fun c w s => stage_level c w s, fun c t g i h => owed_cut W1 c t g i h⟩
    (fun _ => iprop(emp))
    (fun _ _ => rfl) (fun c w => hW' W1 c w)

theorem reg_pre (hb : BodyRuns F) (c : Dev nD) :
    iprop(StableHlo.held (c : Thread nD τ) (Pipeline.ucRefs τ sig) (W1 c) ∗ closed (insOf W1) c ∗ prng (F := F) c ∗ ∃ W, owes (c : Thread nD τ) (O₀ c) W)
      ⊢ (reg W1 hb).pre c := by
  show _ ⊢ iprop(StableHlo.held (c.tc : Thread nD τ) (Pipeline.arrRefs (τ := τ) (pcfgs (F := F) 0).spec) (W1 c) ∗ (∃ r, prngReg c r)
    ∗ (StableHlo.held (c.tc : Thread nD τ) (rest (F := F)) (W1 c) ∗ emp) ∗ closed (insOf W1) c ∗ ∃ Wd, owes (c : Thread nD τ) (0 + O₀ c) Wd)
  rw [zero_add, StableHlo.held_sub_split (c.tc : Thread nD τ) (show Pipeline.arrRefs (τ := τ) (pcfgs (F := F) 0).spec ⊆ Pipeline.ucRefs τ sig from Pipeline.arrRefs_sub_ucRefs spec0 (by decide)) (W1 c)]
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem reg_post (hb : BodyRuns F) (c : Dev nD) : (reg W1 hb).post c
    ⊢ iprop((StableHlo.held (c : Thread nD τ) (Pipeline.ucRefs τ sig) (W2 W1 c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (W2 W1 c) ∗ (∃ r, prngReg c r)
    ∗ (StableHlo.held (c.tc : Thread nD τ) (rest (F := F)) (W2 W1 c) ∗ emp) ∗ semVal (barCell c) 0 ∗ ∃ Wd, owes (c : Thread nD τ) (0 : CellTallies nD τ sig Unit) Wd) ⊢ _
  rw [StableHlo.held_sub_split (c.tc : Thread nD τ) (show Pipeline.arrRefs (τ := τ) (pcfgs (F := F) 0).spec ⊆ Pipeline.ucRefs τ sig from Pipeline.arrRefs_sub_ucRefs spec0 (by decide)) (W2 W1 c)]
  iintro ⟨Ha, -, ⟨Hr, -⟩, Hb, HO⟩
  isplitr [HO]
  · isplitr [Hb]
    · isplitl [Ha]; · iexact Ha
      iexact Hr
    iexact Hb
  iexact HO

end Cert.KernelIdeal.Swap

end
-- ==== Proof.Main.lean ====
/-
  The launch deals the exchange to the devices, and the program runs to its end.
-/
module

public import proofs.«01_k».proof.Proof.Region
public import proofs.«01_k».proof.Proof.Gen.KernelIdeal.Regions

@[expose] public section

set_option maxRecDepth 16384

noncomputable section

namespace Cert.KernelIdeal.Swap

open Idealize.ShloMosaic Idealize.ShloMosaic.TcCoe Idealize.ShloMosaic.ValueIdx Idealize.ShloMosaic.Rounds
open Idealize.ShloMosaic.Pipeline (RegionSeg)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- What the launch starts the ghost state with: the staging cells, and the exchange's. -/
def u₀ : UU :=
  (initOf (Pipeline.cells cfgs cellOf_inj) (Pipeline.launchToks cfgs cellOf_inj), launchOf barCells dmaCells allToks)

/-- A resource all of which is device `d`'s. -/
def only (d : Dev nD) (Y : sProp 𝕄) (c : Dev nD) : sProp 𝕄 := if c = d then Y else iprop(emp)
theorem bigSep_only (d : Dev nD) (Y : sProp 𝕄) : bigSep Finset.univ (only d Y) = Y := by
  have h : bigSep (Finset.univ.erase d) (only d Y) = (iprop(emp) : sProp 𝕄) := by
    rw [bigSep_congr (Φ := only d Y) (Ψ := fun _ => (BI.emp : sProp 𝕄)) fun c hc => if_neg (Finset.ne_of_mem_erase hc), BI.bigSep_emp_const]; rfl
  rw [bigSep_univ_at _ d, h, only, if_pos rfl]
  exact BI.equiv_iff.mp sep_emp

def share (c : Dev nD) : sProp 𝕄 := only (F := F) 0 (BI.own (ER (launchOf barCells dmaCells allToks))) c

theorem fund : (ownU u₀ : sProp 𝕄) ⊢ |={Set.univ}=> iprop(BI.own (EP (initOf (Pipeline.cells cfgs cellOf_inj) (Pipeline.launchToks cfgs cellOf_inj)))
    ∗ bigSep Finset.univ (share (F := F))) := by
  unfold u₀ share
  rw [bigSep_only]
  iintro Hu
  ihave H := (ownU_pair _ _) $$ Hu
  icases H with ⟨HP, HX⟩
  imodintro
  isplitl [HP]; · iexact HP
  iexact HX

variable (X : Ins F)

/-- What a device holds from the launch on. -/
def first (c : Dev nD) : sProp 𝕄 := iprop(closed X c ∗ prng (F := F) c ∗ ∃ W, owes (c : Thread nD τ) (O₀ c) W)

/-- A device's own part of the deal. -/
def part (c : Dev nD) : sProp 𝕄 :=
  iprop((bigSep Finset.univ fun q : Fin 9 × Fin 4 => openTok ER (dCell c q.1.succ q.2)) ∗ atPos ER (barCell c) 0 ∅ 0 ∗ sigToks (F := F) c ∗ toks (F := F) c)
def kept (c : Dev nD) : sProp 𝕄 := iprop(credits (F := F) c ∗ prng (F := F) c ∗ ∃ W, owes (c : Thread nD τ) (O₀ c) W)

theorem first_of (K : GSem nD τ sig → ℕ) (c : Dev nD) : iprop(known X K ∗ (part (F := F) c ∗ kept (F := F) c)) ⊢ first X c := by
  unfold part kept first closed
  iintro ⟨HK, ⟨H1, H2, H3, H4⟩, H5, Hp, HO⟩
  isplitl [HK H1 H2 H3 H4 H5]
  · iexists K
    isplitl [HK]; · iexact HK
    isplitl [H1]; · iexact H1
    isplitl [H2]; · iexact H2
    isplitl [H3]; · iexact H3
    isplitl [H4]; · iexact H4
    iexact H5
  isplitl [Hp]; · iexact Hp
  iexact HO

theorem unscoped_sems (c : Dev nD) : (unscopedSems0 c : sProp 𝕄) = semVal (barCell c) 0 := by
  unfold unscopedSems0
  rw [show (Finset.univ.filter fun sm : SemLoc sig => ¬ sm.isScoped .tc = true) = {SemLoc.reg barS} from by decide, bigSep_singleton]

/-- Of a family's members, those of a smaller set. -/
theorem fewer {I : Type} [DecidableEq I] {C S : Finset I} (h : C ⊆ S) (Φ : I → sProp 𝕄) : bigSep S Φ ⊢ bigSep C Φ := bigSep_subset h

theorem on_bars (Φ : GSem nD τ sig → sProp 𝕄) : bigSep barCells Φ = bigSep Finset.univ fun c : Dev nD => Φ (barCell c) :=
  bigSep_map (s := Finset.univ) barEmb (Φ := Φ)

section
attribute [local irreducible] cells barCells dmaCells
/-- Of the invariants allocated, those the devices use. -/
theorem invs_used (K : GSem nD τ sig → ℕ) : (bigSep (barCells ∪ dmaCells) fun g => (cellInv ER (sch X) (K g) g : sProp 𝕄))
    ⊢ bigSep cells fun g => (cellInv ER (sch X) (K g) g : sProp 𝕄) :=
  fewer (F := F) cells_sub (fun g => (cellInv ER (sch X) (K g) g : sProp 𝕄))

/-- The launch gives every device its start. -/
theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ share (F := F) c)) ∗ levAts L lv)
      ⊢ (|={Set.univ}=> bigSep Finset.univ (first X) : sProp 𝕄) := by
  have hcore (c : Dev nD) : iprop(unscopedSems0 c ∗ owes (c : Thread nD τ) (O₀ c) ∅ ∗ Pipeline.launchCred O₀ c ∗ prngReg c (ρ c) ∗ share (F := F) c)
      ⊢ (iprop(kept (F := F) c ∗ (semVal (barCell c) 0 ∗ share (F := F) c)) : sProp 𝕄) := by
    rw [unscoped_sems]
    unfold kept
    iintro ⟨Hs, HO, Hc, Hp, HG⟩
    ihave Hc := (creds (F := F) c) $$ Hc
    isplitl [HO Hc Hp]
    · isplitl [Hc]; · iexact Hc
      isplitl [Hp]; · iexists (ρ c); iexact Hp
      iexists ∅; iexact HO
    isplitl [Hs] <;> iassumption
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ share (F := F) c))
      ⊢ (bigSep Finset.univ fun c : Dev nD => iprop(kept (F := F) c ∗ (semVal (barCell c) 0 ∗ share (F := F) c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (share (F := F)) ⊢ BI.own (ER (launchOf barCells dmaCells allToks)) from
    Entails.of_eq (bigSep_only (F := F) 0 (BI.own (ER (launchOf barCells dmaCells allToks))))) $$ HG
  imod (Rounds.fund_launch ER (sch X) cells_disj (fun g _ h => h) allToks) $$ [Hv Hu] with ⟨%κ, -, #Hinv, #Hr, Hat, Hopen, Htok⟩
  · isplitl [Hv]
    · iapply (Entails.of_eq (on_bars fun g => (semVal g 0 : sProp 𝕄)).symm) $$ Hv
    · iexact Hu
  imodintro
  iapply (bigSep_with_persistent (R := known X κ) (Φ := fun c => iprop(part (F := F) c ∗ kept (F := F) c)) (Ψ := first X) fun c _ => first_of X κ c)
  isplitr
  · unfold known
    isplitr; · iapply (invs_used X κ); iexact Hinv
    iapply (Entails.of_eq (on_bars fun g => (reached ER g 0 : sProp 𝕄))); iexact Hr
  iapply pair
  isplitr [HB]
  · unfold part
    ihave Ht := (toks_deal (F := F)) $$ Htok
    icases Ht with ⟨Ht1, Ht2⟩
    iapply pair; isplitl [Hopen]; · iapply (Entails.of_eq (open_deal (F := F))) $$ Hopen
    iapply pair; isplitl [Hat]; · iapply (Entails.of_eq (on_bars fun g => (atPos ER g 0 ∅ 0 : sProp 𝕄))) $$ Hat
    iapply pair; isplitl [Ht1] <;> iassumption
  · iexact HB
end

variable (m : (ℓ : Loc nD τ sig) → Buf (Elt F) ℓ) (ρ : Dev nD → PrngReg)

/-- What the rest of a device's holdings are before and after the host's part. -/
def beside (k : Fin 2) (c : Dev nD) : sProp 𝕄 := first (insOf (V1 m)) c

theorem unscoped_eq : ∀ sm : SemLoc sig, sm.isScoped .tc = false → sm = .reg barS := by decide

theorem in_refs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- The program runs to its end: the arguments are as launched, the result is the one named, and every counter is at zero. -/
theorem run_main (hb : BodyRuns F) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v32) = outC (insOf (V1 m)) c) ∧ r.2.sem = fun _ => 0) := by
  refine Pipeline.θ_run_regions_kit_dev_sems (pcfgs (F := F)) adm (dats (V1 m)) () cellOf_inj EP defs₀ 𝒱₀ L lv m ρ main
    (segs m 𝒱₀ L lv (beside m) () (dats (V1 m)) (reg (V1 m) hb))
    (fun c Q => by
      rewrite [main_chain c, Pipeline.Seg.run_eq_chain,
        show (segs m 𝒱₀ L lv (beside m) () (dats (V1 m)) (reg (V1 m) hb) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (share (F := F)) u₀ fund
    (T₀ := fun c => iprop(StableHlo.held (c : Thread nD τ) (Pipeline.ucRefs τ sig) (V0 m c) ∗ beside m 0 c))
    (Tₙ := fun c => iprop(StableHlo.held (c : Thread nD τ) (Pipeline.ucRefs τ sig) (W2 (V1 m) c) ∗ semVal (barCell c) 0))
    (hch := fun c => ⟨.rfl, reg_pre (V1 m) hb c, reg_post (V1 m) hb c⟩)
    (hinit := ?_)
    (QY := fun c s => (∀ b ∈ Pipeline.ucRefs τ sig, s.mem ((c : Thread nD τ).1, b) = W2 (V1 m) c b) ∧ s.sem (barCell c) = 0)
    (hfin := fun c s' => ?_) (hQ := fun s h hs => ⟨fun c => ?_, sem_eq_zero hs fun c sm hsm => ?_⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ share (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ share (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (insOf (V1 m)) ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    ihave Hr := (pointsTo_read_all (Pipeline.ucRefs τ sig) (fun b => ((c : Thread nD τ).1, b)) (W2 (V1 m) c) s') $$ [Hh HSI]
    · isplitl [Hh] <;> iassumption
    icases Hr with ⟨%h, HSI⟩
    icombine HSI Hb gives %hb
    imodintro
    isplitr
    · ipureintro
      exact ⟨h, by simpa using hb⟩
    · iexact HSI
  · have hne (r : Ref sig .tc) (hr : r ≠ main_v32) (hu : r.isScoped = false) (h1 : V1 m c r = m ((c : Thread nD τ).loc r)) :
        s.mem ((c : Thread nD τ).loc r) = m ((c : Thread nD τ).loc r) :=
      ((h c).1 _ (in_refs r hu)).trans ((Function.update_of_ne (StableHlo.devRef_ne_of_ne hr) _ _).trans h1)
    refine ⟨hne main_arg0 (by decide) rfl ?_, hne main_arg1 (by decide) rfl ?_, ?_⟩
    · exact V1_of m c main_arg0 (by decide)
    · exact V1_of m c main_arg1 (by decide)
    · exact ((h c).1 _ (in_refs main_v32 rfl)).trans (W2_out (V1 m) c)
  · obtain rfl := unscoped_eq sm hsm
    exact (h c).2

end Cert.KernelIdeal.Swap

end
-- ==== Proof.Body.lean ====
/-
  The kernel's body on one device: the barrier, the four sends across `y`, the four sums sent on, the twelve receipts, the sixteen send waits.
-/
module

public import proofs.«01_k».proof.Proof.Ends

@[expose] public section

set_option maxRecDepth 16384

noncomputable section

namespace Cert.KernelIdeal.Swap

open Idealize.ShloMosaic Idealize.ShloMosaic.TcCoe Idealize.ShloMosaic.ValueIdx Idealize.ShloMosaic.Rounds
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (X : Ins F) {K : GSem nD τ sig → ℕ} (c : Dev nD) {R : sProp (MT nD τ sig Unit (Elt F) ℕ UU ℕ)} [BI.Persistent R] (hR : Recs X K c R)

include hR in
set_option maxHeartbeats 4000000 in
/-- The body runs from the one to the other. -/
theorem body_run (Q : PUnit.{1} → sProp 𝕄) :
    iprop(R ∗ bodyPre X c ∗ (bodyPost X c -∗ Q ⟨⟩))
      ⊢ run (F := F) c (cc0_body mP (Memref.isWhole_whole _) mM (Memref.isWhole_whole _) mW (Memref.isWhole_whole _) mO (Memref.isWhole_whole _) mPS (Memref.isWhole_whole _) mPR (Memref.isWhole_whole _)
          mAS (Memref.isWhole_whole _) mGR (Memref.isWhole_whole _) cc0_scratch4 cc0_scratch5 cc0_scratch6 cc0_scratch7) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel
  simp only [semSignalWord, semWaitWord, Prog.lift, Prog.bind_op, Prog.bind_ret, Prog.pure_eq_ret, Prog.bind_assoc, wp_deviceId]
  unfold bodyPre
  simp only [bigSep_four]
  iintro ⟨#HR, ⟨Hin, HX, ⟨B0, B1, B2, B3⟩, Hc, Ha, HO, ⟨Y0, Y1, Y2, Y3⟩, ⟨A0, A1, A2, A3⟩, ⟨G10, G11, G12, G13⟩, ⟨G20, G21, G22, G23⟩, ⟨G30, G31, G32, G33⟩,
    ⟨R10, R11, R12, R13⟩, ⟨R20, R21, R22, R23⟩, ⟨R30, R31, R32, R33⟩⟩, HQ⟩
  unfold Btok; icases B0 with ⟨P, T⟩
  iapply (sigStep X c hR 0 _ (p := ⟨k0_dev1 c, k0_dev1_lt c⟩) (by clear hR; revert c; decide +kernel) rfl) $$ [P T HO]
  · isplitr; · iexact HR
    isplitl [P]; · iexact P
    isplitl [T]; · iexact T
    iexact HO
  iintro HO
  icases B1 with ⟨P, T⟩
  iapply (sigStep X c hR 1 _ (p := ⟨k0_dev2 c, k0_dev2_lt c⟩) (by clear hR; revert c; decide +kernel) rfl) $$ [P T HO]
  · isplitr; · iexact HR
    isplitl [P]; · iexact P
    isplitl [T]; · iexact T
    iexact HO
  iintro HO
  icases B2 with ⟨P, T⟩
  iapply (sigStep X c hR 2 _ (p := ⟨k0_dev3 c, k0_dev3_lt c⟩) (by clear hR; revert c; decide +kernel) rfl) $$ [P T HO]
  · isplitr; · iexact HR
    isplitl [P]; · iexact P
    isplitl [T]; · iexact T
    iexact HO
  iintro HO
  icases B3 with ⟨P, T⟩
  iapply (sigStep X c hR 3 _ (p := ⟨k0_dev4 c, k0_dev4_lt c⟩) (by clear hR; revert c; decide +kernel) rfl) $$ [P T HO]
  · isplitr; · iexact HR
    isplitl [P]; · iexact P
    isplitl [T]; · iexact T
    iexact HO
  iintro HO
  iapply (barWait X c hR _ (above_yaOw c [0, 1, 2, 3] [0, 1, 2, 3]) rfl) $$ [Hc Ha HO]
  · isplitr; · iexact HR
    isplitl [Hc]; · iexact Hc
    isplitl [Ha]; · iexact Ha
    iexact HO
  iintro ⟨Hb, Zb, HO⟩
  unfold barPay
  ihave Hb := (Entails.of_eq (bigSep_four _)) $$ Hb
  icases Hb with ⟨B0, B1, B2, B3⟩
  ihave B0 := (Entails.of_eq (bigSep_four _)) $$ B0
  icases B0 with ⟨L00, L01, L02, L03⟩
  ihave B1 := (Entails.of_eq (bigSep_four _)) $$ B1
  icases B1 with ⟨L10, L11, L12, L13⟩
  ihave B2 := (Entails.of_eq (bigSep_four _)) $$ B2
  icases B2 with ⟨L20, L21, L22, L23⟩
  ihave B3 := (Entails.of_eq (bigSep_four _)) $$ B3
  icases B3 with ⟨L30, L31, L32, L33⟩
  -- the sends across `y`
  unfold Ytok; icases Y0 with ⟨P, T, U, Y0⟩
  iapply (yPhase X c hR 0 _ ?_ ?_ ?_ ?_ ?_ ?_ ?_ ?_ ?_ ?_ ?_ ?_) $$ [Hin P L00 T U HO]
  iterate 12 (· first | rfl | (clear hR; revert c; decide +kernel))
  · isplitr; · iexact HR
    isplitl [Hin]; · iexact Hin
    isplitr [HO]
    · unfold Ypre; iframe
    iexact HO
  iintro ⟨Hin, C0, HO⟩
  icases Y1 with ⟨P, T, U, Y1⟩
  iapply (yPhase X c hR 1 _ ?_ ?_ ?_ ?_ ?_ ?_ ?_ ?_ ?_ ?_ ?_ ?_) $$ [Hin P L01 T U HO]
  iterate 12 (· first | rfl | (clear hR; revert c; decide +kernel))
  · isplitr; · iexact HR
    isplitl [Hin]; · iexact Hin
    isplitr [HO]
    · unfold Ypre; iframe
    iexact HO
  iintro ⟨Hin, C1, HO⟩
  icases Y2 with ⟨P, T, U, Y2⟩
  iapply (yPhase X c hR 2 _ ?_ ?_ ?_ ?_ ?_ ?_ ?_ ?_ ?_ ?_ ?_ ?_) $$ [Hin P L02 T U HO]
  iterate 12 (· first | rfl | (clear hR; revert c; decide +kernel))
  · isplitr; · iexact HR
    isplitl [Hin]; · iexact Hin
    isplitr [HO]
    · unfold Ypre; iframe
    iexact HO
  iintro ⟨Hin, C2, HO⟩
  icases Y3 with ⟨P, T, U, Y3⟩
  iapply (yPhase X c hR 3 _ ?_ ?_ ?_ ?_ ?_ ?_ ?_ ?_ ?_ ?_ ?_ ?_) $$ [Hin P L03 T U HO]
  iterate 12 (· first | rfl | (clear hR; revert c; decide +kernel))
  · isplitr; · iexact HR
    isplitl [Hin]; · iexact Hin
    isplitr [HO]
    · unfold Ypre; iframe
    iexact HO
  iintro ⟨Hin, C3, HO⟩
  have hz : (owesE (F := F) c ((List.map (fun s => (dCell (nb 0 c) 2 s, N)) []).append (aOw c [0, 1, 2, 3])) : sProp 𝕄) ⊢ owesE c (aOw c [0, 1, 2, 3]) := Entails.refl _
  ihave HO := hz $$ HO
  clear hz
  -- the sums
  unfold Atok Gtok; icases A0 with ⟨P, T, U⟩
  iapply (agOwn X c hR 0 _ (above_aOw c [0, 1, 2, 3]) _ ?_ ?_ ?_ ?_ ?_ ?_ ?_ ?_ ?_ ?_ ?_ ?_ ?_ ?_ ?_ ?_) $$ [Hin HX P T U HO]
  iterate 16 (· first | rfl | (clear hR; revert c; decide +kernel))
  · isplitr; · iexact HR
    iframe
  iintro ⟨Hin, HX, HA, V0, A0, HO⟩
  ihave HA := (shares c).1 $$ HA
  icases HA with ⟨S1, S2, S3⟩
  icases G10 with ⟨T, U, G10⟩
  iapply (agSend X c hR 1 0 (by decide) _ ?_ ?_ ?_ ?_ ?_) $$ [S1 L10 T U HO]
  iterate 5 (· first | rfl | (clear hR; revert c; decide +kernel))
  · isplitr; · iexact HR
    isplitl [S1]; · iexact S1
    isplitr [HO]
    · unfold Apre; iframe
    iexact HO
  iintro ⟨D10, HO⟩
  icases G20 with ⟨T, U, G20⟩
  iapply (agSend X c hR 2 0 (by decide) _ ?_ ?_ ?_ ?_ ?_) $$ [S2 L20 T U HO]
  iterate 5 (· first | rfl | (clear hR; revert c; decide +kernel))
  · isplitr; · iexact HR
    isplitl [S2]; · iexact S2
    isplitr [HO]
    · unfold Apre; iframe
    iexact HO
  iintro ⟨D20, HO⟩
  icases G30 with ⟨T, U, G30⟩
  iapply (agSend X c hR 3 0 (by decide) _ ?_ ?_ ?_ ?_ ?_) $$ [S3 L30 T U HO]
  iterate 5 (· first | rfl | (clear hR; revert c; decide +kernel))
  · isplitr; · iexact HR
    isplitl [S3]; · iexact S3
    isplitr [HO]
    · unfold Apre; iframe
    iexact HO
  iintro ⟨D30, HO⟩
  icases A1 with ⟨P, T, U⟩
  iapply (agOwn X c hR 1 _ (above_aOw c [1, 2, 3]) _ ?_ ?_ ?_ ?_ ?_ ?_ ?_ ?_ ?_ ?_ ?_ ?_ ?_ ?_ ?_ ?_) $$ [Hin HX P T U HO]
  iterate 16 (· first | rfl | (clear hR; revert c; decide +kernel))
  · isplitr; · iexact HR
    iframe
  iintro ⟨Hin, HX, HA, V1, A1, HO⟩
  ihave HA := (shares c).1 $$ HA
  icases HA with ⟨S1, S2, S3⟩
  icases G11 with ⟨T, U, G11⟩
  iapply (agSend X c hR 1 1 (by decide) _ ?_ ?_ ?_ ?_ ?_) $$ [S1 L11 T U HO]
  iterate 5 (· first | rfl | (clear hR; revert c; decide +kernel))
  · isplitr; · iexact HR
    isplitl [S1]; · iexact S1
    isplitr [HO]
    · unfold Apre; iframe
    iexact HO
  iintro ⟨D11, HO⟩
  icases G21 with ⟨T, U, G21⟩
  iapply (agSend X c hR 2 1 (by decide) _ ?_ ?_ ?_ ?_ ?_) $$ [S2 L21 T U HO]
  iterate 5 (· first | rfl | (clear hR; revert c; decide +kernel))
  · isplitr; · iexact HR
    isplitl [S2]; · iexact S2
    isplitr [HO]
    · unfold Apre; iframe
    iexact HO
  iintro ⟨D21, HO⟩
  icases G31 with ⟨T, U, G31⟩
  iapply (agSend X c hR 3 1 (by decide) _ ?_ ?_ ?_ ?_ ?_) $$ [S3 L31 T U HO]
  iterate 5 (· first | rfl | (clear hR; revert c; decide +kernel))
  · isplitr; · iexact HR
    isplitl [S3]; · iexact S3
    isplitr [HO]
    · unfold Apre; iframe
    iexact HO
  iintro ⟨D31, HO⟩
  icases A2 with ⟨P, T, U⟩
  iapply (agOwn X c hR 2 _ (above_aOw c [2, 3]) _ ?_ ?_ ?_ ?_ ?_ ?_ ?_ ?_ ?_ ?_ ?_ ?_ ?_ ?_ ?_ ?_) $$ [Hin HX P T U HO]
  iterate 16 (· first | rfl | (clear hR; revert c; decide +kernel))
  · isplitr; · iexact HR
    iframe
  iintro ⟨Hin, HX, HA, V2, A2, HO⟩
  ihave HA := (shares c).1 $$ HA
  icases HA with ⟨S1, S2, S3⟩
  icases G12 with ⟨T, U, G12⟩
  iapply (agSend X c hR 1 2 (by decide) _ ?_ ?_ ?_ ?_ ?_) $$ [S1 L12 T U HO]
  iterate 5 (· first | rfl | (clear hR; revert c; decide +kernel))
  · isplitr; · iexact HR
    isplitl [S1]; · iexact S1
    isplitr [HO]
    · unfold Apre; iframe
    iexact HO
  iintro ⟨D12, HO⟩
  icases G22 with ⟨T, U, G22⟩
  iapply (agSend X c hR 2 2 (by decide) _ ?_ ?_ ?_ ?_ ?_) $$ [S2 L22 T U HO]
  iterate 5 (· first | rfl | (clear hR; revert c; decide +kernel))
  · isplitr; · iexact HR
    isplitl [S2]; · iexact S2
    isplitr [HO]
    · unfold Apre; iframe
    iexact HO
  iintro ⟨D22, HO⟩
  icases G32 with ⟨T, U, G32⟩
  iapply (agSend X c hR 3 2 (by decide) _ ?_ ?_ ?_ ?_ ?_) $$ [S3 L32 T U HO]
  iterate 5 (· first | rfl | (clear hR; revert c; decide +kernel))
  · isplitr; · iexact HR
    isplitl [S3]; · iexact S3
    isplitr [HO]
    · unfold Apre; iframe
    iexact HO
  iintro ⟨D32, HO⟩
  icases A3 with ⟨P, T, U⟩
  iapply (agOwn X c hR 3 _ (above_aOw c [3]) _ ?_ ?_ ?_ ?_ ?_ ?_ ?_ ?_ ?_ ?_ ?_ ?_ ?_ ?_ ?_ ?_) $$ [Hin HX P T U HO]
  iterate 16 (· first | rfl | (clear hR; revert c; decide +kernel))
  · isplitr; · iexact HR
    iframe
  iintro ⟨Hin, HX, HA, V3, A3, HO⟩
  ihave HA := (shares c).1 $$ HA
  icases HA with ⟨S1, S2, S3⟩
  icases G13 with ⟨T, U, G13⟩
  iapply (agSend X c hR 1 3 (by decide) _ ?_ ?_ ?_ ?_ ?_) $$ [S1 L13 T U HO]
  iterate 5 (· first | rfl | (clear hR; revert c; decide +kernel))
  · isplitr; · iexact HR
    isplitl [S1]; · iexact S1
    isplitr [HO]
    · unfold Apre; iframe
    iexact HO
  iintro ⟨D13, HO⟩
  icases G23 with ⟨T, U, G23⟩
  iapply (agSend X c hR 2 3 (by decide) _ ?_ ?_ ?_ ?_ ?_) $$ [S2 L23 T U HO]
  iterate 5 (· first | rfl | (clear hR; revert c; decide +kernel))
  · isplitr; · iexact HR
    isplitl [S2]; · iexact S2
    isplitr [HO]
    · unfold Apre; iframe
    iexact HO
  iintro ⟨D23, HO⟩
  icases G33 with ⟨T, U, G33⟩
  iapply (agSend X c hR 3 3 (by decide) _ ?_ ?_ ?_ ?_ ?_) $$ [S3 L33 T U HO]
  iterate 5 (· first | rfl | (clear hR; revert c; decide +kernel))
  · isplitr; · iexact HR
    isplitl [S3]; · iexact S3
    isplitr [HO]
    · unfold Apre; iframe
    iexact HO
  iintro ⟨D33, HO⟩
  rw [show aOw c [] = [] from rfl]
  -- the receipts
  iapply (recvPhase X c hR 1 0 (by decide) _ ?_ ?_ ?_ ?_ ?_ ?_ ?_ ?_) $$ [R10 HX HO]
  iterate 8 (· first | rfl | (clear hR; revert c; decide +kernel))
  · isplitr; · iexact HR
    iframe
  iintro ⟨R10, HX, HO⟩
  iapply (recvPhase X c hR 1 1 (by decide) _ ?_ ?_ ?_ ?_ ?_ ?_ ?_ ?_) $$ [R11 HX HO]
  iterate 8 (· first | rfl | (clear hR; revert c; decide +kernel))
  · isplitr; · iexact HR
    iframe
  iintro ⟨R11, HX, HO⟩
  iapply (recvPhase X c hR 1 2 (by decide) _ ?_ ?_ ?_ ?_ ?_ ?_ ?_ ?_) $$ [R12 HX HO]
  iterate 8 (· first | rfl | (clear hR; revert c; decide +kernel))
  · isplitr; · iexact HR
    iframe
  iintro ⟨R12, HX, HO⟩
  iapply (recvPhase X c hR 1 3 (by decide) _ ?_ ?_ ?_ ?_ ?_ ?_ ?_ ?_) $$ [R13 HX HO]
  iterate 8 (· first | rfl | (clear hR; revert c; decide +kernel))
  · isplitr; · iexact HR
    iframe
  iintro ⟨R13, HX, HO⟩
  iapply (recvPhase X c hR 2 0 (by decide) _ ?_ ?_ ?_ ?_ ?_ ?_ ?_ ?_) $$ [R20 HX HO]
  iterate 8 (· first | rfl | (clear hR; revert c; decide +kernel))
  · isplitr; · iexact HR
    iframe
  iintro ⟨R20, HX, HO⟩
  iapply (recvPhase X c hR 2 1 (by decide) _ ?_ ?_ ?_ ?_ ?_ ?_ ?_ ?_) $$ [R21 HX HO]
  iterate 8 (· first | rfl | (clear hR; revert c; decide +kernel))
  · isplitr; · iexact HR
    iframe
  iintro ⟨R21, HX, HO⟩
  iapply (recvPhase X c hR 2 2 (by decide) _ ?_ ?_ ?_ ?_ ?_ ?_ ?_ ?_) $$ [R22 HX HO]
  iterate 8 (· first | rfl | (clear hR; revert c; decide +kernel))
  · isplitr; · iexact HR
    iframe
  iintro ⟨R22, HX, HO⟩
  iapply (recvPhase X c hR 2 3 (by decide) _ ?_ ?_ ?_ ?_ ?_ ?_ ?_ ?_) $$ [R23 HX HO]
  iterate 8 (· first | rfl | (clear hR; revert c; decide +kernel))
  · isplitr; · iexact HR
    iframe
  iintro ⟨R23, HX, HO⟩
  iapply (recvPhase X c hR 3 0 (by decide) _ ?_ ?_ ?_ ?_ ?_ ?_ ?_ ?_) $$ [R30 HX HO]
  iterate 8 (· first | rfl | (clear hR; revert c; decide +kernel))
  · isplitr; · iexact HR
    iframe
  iintro ⟨R30, HX, HO⟩
  iapply (recvPhase X c hR 3 1 (by decide) _ ?_ ?_ ?_ ?_ ?_ ?_ ?_ ?_) $$ [R31 HX HO]
  iterate 8 (· first | rfl | (clear hR; revert c; decide +kernel))
  · isplitr; · iexact HR
    iframe
  iintro ⟨R31, HX, HO⟩
  iapply (recvPhase X c hR 3 2 (by decide) _ ?_ ?_ ?_ ?_ ?_ ?_ ?_ ?_) $$ [R32 HX HO]
  iterate 8 (· first | rfl | (clear hR; revert c; decide +kernel))
  · isplitr; · iexact HR
    iframe
  iintro ⟨R32, HX, HO⟩
  iapply (recvPhase X c hR 3 3 (by decide) _ ?_ ?_ ?_ ?_ ?_ ?_ ?_ ?_) $$ [R33 HX HO]
  iterate 8 (· first | rfl | (clear hR; revert c; decide +kernel))
  · isplitr; · iexact HR
    iframe
  iintro ⟨R33, HX, HO⟩
  -- the waits for the sends
  iapply (dmaWait X c hR 1 0 (isDma_one c) [] (above_nil _) ?_ ?_) $$ [C0 Y0 HO]
  iterate 2 (· first | rfl | (clear hR; revert c; decide +kernel))
  · isplitr; · iexact HR
    iframe
  iintro ⟨P0, Y0, HO⟩
  iapply (dmaWait X c hR 1 1 (isDma_one c) [] (above_nil _) ?_ ?_) $$ [C1 Y1 HO]
  iterate 2 (· first | rfl | (clear hR; revert c; decide +kernel))
  · isplitr; · iexact HR
    iframe
  iintro ⟨P1, Y1, HO⟩
  iapply (dmaWait X c hR 1 2 (isDma_one c) [] (above_nil _) ?_ ?_) $$ [C2 Y2 HO]
  iterate 2 (· first | rfl | (clear hR; revert c; decide +kernel))
  · isplitr; · iexact HR
    iframe
  iintro ⟨P2, Y2, HO⟩
  iapply (dmaWait X c hR 1 3 (isDma_one c) [] (above_nil _) ?_ ?_) $$ [C3 Y3 HO]
  iterate 2 (· first | rfl | (clear hR; revert c; decide +kernel))
  · isplitr; · iexact HR
    iframe
  iintro ⟨P3, Y3, HO⟩
  iapply (dmaWait X c hR (sg 1) 0 (isDma_sg c 1) [] (above_nil _) ?_ ?_) $$ [D10 G10 HO]
  iterate 2 (· first | rfl | (clear hR; revert c; decide +kernel))
  · isplitr; · iexact HR
    iframe
  iintro ⟨D10, G10, HO⟩
  iapply (dmaWait X c hR (sg 2) 0 (isDma_sg c 2) [] (above_nil _) ?_ ?_) $$ [D20 G20 HO]
  iterate 2 (· first | rfl | (clear hR; revert c; decide +kernel))
  · isplitr; · iexact HR
    iframe
  iintro ⟨D20, G20, HO⟩
  iapply (dmaWait X c hR (sg 3) 0 (isDma_sg c 3) [] (above_nil _) ?_ ?_) $$ [D30 G30 HO]
  iterate 2 (· first | rfl | (clear hR; revert c; decide +kernel))
  · isplitr; · iexact HR
    iframe
  iintro ⟨D30, G30, HO⟩
  iapply (dmaWait X c hR (sg 1) 1 (isDma_sg c 1) [] (above_nil _) ?_ ?_) $$ [D11 G11 HO]
  iterate 2 (· first | rfl | (clear hR; revert c; decide +kernel))
  · isplitr; · iexact HR
    iframe
  iintro ⟨D11, G11, HO⟩
  iapply (dmaWait X c hR (sg 2) 1 (isDma_sg c 2) [] (above_nil _) ?_ ?_) $$ [D21 G21 HO]
  iterate 2 (· first | rfl | (clear hR; revert c; decide +kernel))
  · isplitr; · iexact HR
    iframe
  iintro ⟨D21, G21, HO⟩
  iapply (dmaWait X c hR (sg 3) 1 (isDma_sg c 3) [] (above_nil _) ?_ ?_) $$ [D31 G31 HO]
  iterate 2 (· first | rfl | (clear hR; revert c; decide +kernel))
  · isplitr; · iexact HR
    iframe
  iintro ⟨D31, G31, HO⟩
  iapply (dmaWait X c hR (sg 1) 2 (isDma_sg c 1) [] (above_nil _) ?_ ?_) $$ [D12 G12 HO]
  iterate 2 (· first | rfl | (clear hR; revert c; decide +kernel))
  · isplitr; · iexact HR
    iframe
  iintro ⟨D12, G12, HO⟩
  iapply (dmaWait X c hR (sg 2) 2 (isDma_sg c 2) [] (above_nil _) ?_ ?_) $$ [D22 G22 HO]
  iterate 2 (· first | rfl | (clear hR; revert c; decide +kernel))
  · isplitr; · iexact HR
    iframe
  iintro ⟨D22, G22, HO⟩
  iapply (dmaWait X c hR (sg 3) 2 (isDma_sg c 3) [] (above_nil _) ?_ ?_) $$ [D32 G32 HO]
  iterate 2 (· first | rfl | (clear hR; revert c; decide +kernel))
  · isplitr; · iexact HR
    iframe
  iintro ⟨D32, G32, HO⟩
  iapply (dmaWait X c hR (sg 1) 3 (isDma_sg c 1) [] (above_nil _) ?_ ?_) $$ [D13 G13 HO]
  iterate 2 (· first | rfl | (clear hR; revert c; decide +kernel))
  · isplitr; · iexact HR
    iframe
  iintro ⟨D13, G13, HO⟩
  iapply (dmaWait X c hR (sg 2) 3 (isDma_sg c 2) [] (above_nil _) ?_ ?_) $$ [D23 G23 HO]
  iterate 2 (· first | rfl | (clear hR; revert c; decide +kernel))
  · isplitr; · iexact HR
    iframe
  iintro ⟨D23, G23, HO⟩
  iapply (dmaWait X c hR (sg 3) 3 (isDma_sg c 3) [] (above_nil _) ?_ ?_) $$ [D33 G33 HO]
  iterate 2 (· first | rfl | (clear hR; revert c; decide +kernel))
  · isplitr; · iexact HR
    iframe
  iintro ⟨D33, G33, HO⟩
  iapply (run_ret c Q)
  iapply HQ
  unfold bodyPost
  simp only [bigSep_four]
  isplitl [Hin]
  · iexact Hin
  isplitl [HX]
  · iapply (end_o X c _ ?_) $$ HX
    exact all_pieces c
  isplitl [Zb]
  · iexact Zb
  isplitl [HO]
  · iexact HO
  isplitl [P0 Y0 P1 Y1 P2 Y2 P3 Y3]
  · isplitl [P0 Y0]
    · iapply (end_y X c 0)
      isplitl [P0] <;> iassumption
    isplitl [P1 Y1]
    · iapply (end_y X c 1)
      isplitl [P1] <;> iassumption
    isplitl [P2 Y2]
    · iapply (end_y X c 2)
      isplitl [P2] <;> iassumption
    iapply (end_y X c 3)
    isplitl [P3] <;> iassumption
  isplitl [V0 A0 V1 A1 V2 A2 V3 A3]
  · isplitl [V0 A0]
    · iapply (end_a X c 0)
      isplitl [V0] <;> iassumption
    isplitl [V1 A1]
    · iapply (end_a X c 1)
      isplitl [V1] <;> iassumption
    isplitl [V2 A2]
    · iapply (end_a X c 2)
      isplitl [V2] <;> iassumption
    iapply (end_a X c 3)
    isplitl [V3] <;> iassumption
  isplitl [D10 G10 D20 G20 D30 G30 D11 G11 D21 G21 D31 G31 D12 G12 D22 G22 D32 G32 D13 G13 D23 G23 D33 G33]
  · isplitl [D10 G10 D20 G20 D30 G30]
    · iapply (end_g X c 0)
      isplitl [D10 G10]; · (isplitl [D10] <;> iassumption)
      isplitl [D20 G20]; · (isplitl [D20] <;> iassumption)
      isplitl [D30] <;> iassumption
    isplitl [D11 G11 D21 G21 D31 G31]
    · iapply (end_g X c 1)
      isplitl [D11 G11]; · (isplitl [D11] <;> iassumption)
      isplitl [D21 G21]; · (isplitl [D21] <;> iassumption)
      isplitl [D31] <;> iassumption
    isplitl [D12 G12 D22 G22 D32 G32]
    · iapply (end_g X c 2)
      isplitl [D12 G12]; · (isplitl [D12] <;> iassumption)
      isplitl [D22 G22]; · (isplitl [D22] <;> iassumption)
      isplitl [D32] <;> iassumption
    iapply (end_g X c 3)
    isplitl [D13 G13]; · (isplitl [D13] <;> iassumption)
    isplitl [D23 G23]; · (isplitl [D23] <;> iassumption)
    isplitl [D33] <;> iassumption
  isplitl [R10 R11 R12 R13]
  · isplitl [R10]
    · iexact R10
    isplitl [R11]
    · iexact R11
    isplitl [R12]
    · iexact R12
    iexact R13
  isplitl [R20 R21 R22 R23]
  · isplitl [R20]
    · iexact R20
    isplitl [R21]
    · iexact R21
    isplitl [R22]
    · iexact R22
    iexact R23
  isplitl [R30]
  · iexact R30
  isplitl [R31]
  · iexact R31
  isplitl [R32]
  · iexact R32
  iexact R33

end Cert.KernelIdeal.Swap

end
-- ==== Proof.HostVals.lean ====
/-
  What the host's part hands the kernel: two slices of a device's rows.
-/
module

public import proofs.«01_k».proof.Proof.Gen.KernelIdeal.Regions
public import Idealize.ShloMosaic.Lib.StableHlo.RunClose
public import Idealize.ShloMosaic.Lib.Pipeline.Value
public import Idealize.ShloMosaic.Lib.ValueIdx
public import Idealize.ShloMosaic.Lib.DynamicIndex

@[expose] public section

set_option maxRecDepth 16384

noncomputable section

namespace Cert.KernelIdeal.Swap

open Idealize.ShloMosaic Idealize.ShloMosaic.TcCoe Idealize.ShloMosaic.ValueIdx
open Cert.KernelIdeal Cert.KernelIdeal.Gen
open Idealize.SL.Sem

variable {F : FTy → Type} [FloatOps F]
variable (m : (ℓ : Loc nD τ sig) → Buf (Elt F) ℓ)

/-- The first of the rows device `c` multiplies for its neighbour across `y`. -/
def pOff (c : Dev nD) : Nat := (1 - c.val / 2 % 2) * 512 + (c.val / 4 * 2 + c.val % 2) * 128

/-- The first of the rows it multiplies for itself. -/
def mOff (c : Dev nD) : Nat := (c.val / 2 % 2) * 512 + (c.val / 4 * 2 + c.val % 2) * 128

theorem pOff_slices : ∀ c : Dev nD, S2x1024x16x64.Slices ![0, pOff c, 0, 0] S2x128x16x64 := by decide

theorem mOff_slices : ∀ c : Dev nD, S2x1024x16x64.Slices ![0, mOff c, 0, 0] S2x128x16x64 := by decide

/-- The coordinate of device `c` along `x`, `y` or `z` (`k = 4, 2, 1`), as the host computes it. -/
def coordW (c : Dev nD) (k : BitVec 32) : IVec S_ 32 := id (Host.remui (Host.divui (constantI S_ 32 c.word) (constantI S_ 32 k)) (constantI S_ 32 2#32))

/-- The first row of the device's slice in either half. -/
def rowW (c : Dev nD) : IVec S_ 32 := muli (addi (muli (constantI S_ 32 2#32) (coordW c 4#32)) (coordW c 1#32)) (constantI S_ 32 128#32)

/-- An index that counts from the end where it is negative. -/
def wrapW (v : IVec S_ 32) : IVec S_ 32 := select (cmpi .slt v (constantI S_ 32 0#32)) (addi v (constantI S_ 32 1024#32)) v

/-- Where the host starts its first slice. -/
def peerStart (c : Dev nD) : IVec S_ 32 := wrapW (addi (muli (subi (constantI S_ 32 1#32) (coordW c 2#32)) (constantI S_ 32 512#32)) (rowW c))

/-- Where it starts its second. -/
def mineStart (c : Dev nD) : IVec S_ 32 := wrapW (addi (muli (coordW c 2#32) (constantI S_ 32 512#32)) (rowW c))

/-- The first slice starts at `pOff`. -/
theorem peerStart_val : ∀ c : Dev nD, (peerStart c (Shape.Idx.first h_S_)).toInt = (pOff c : Int) := by decide +kernel

/-- The second starts at `mOff`. -/
theorem mineStart_val : ∀ c : Dev nD, (mineStart c (Shape.Idx.first h_S_)).toInt = (mOff c : Int) := by decide +kernel

/-- The host's first slice is the rows from `pOff`. -/
theorem peer_slice (c : Dev nD) : V1 m c main_v26
    = shapeCast S2x128x1024 (extractStridedSlice S2x128x16x64 ![0, pOff c, 0, 0] (m ((c : Thread nD τ).loc main_arg0)) (pOff_slices c)) shapeCasts_S2x128x16x64_S2x128x1024 := by
  after_results_simp_entrywise
  refine congrArg (fun v => shapeCast S2x128x1024 v shapeCasts_S2x128x16x64_S2x128x1024) ?_
  refine Host.dynamicSlice_eq_extractStridedSlice S2x128x16x64 (m ((c : Thread nD τ).loc main_arg0)) _ ![0, pOff c, 0, 0] sliceFits_S2x1024x16x64_S2x128x16x64 (pOff_slices c) fun a => ?_
  change Fin 4 at a
  fin_cases a
  · rfl
  · exact peerStart_val c
  · rfl
  · rfl

/-- The second is the rows from `mOff`. -/
theorem mine_slice (c : Dev nD) : V1 m c main_v31
    = shapeCast S2x128x1024 (extractStridedSlice S2x128x16x64 ![0, mOff c, 0, 0] (m ((c : Thread nD τ).loc main_arg0)) (mOff_slices c)) shapeCasts_S2x128x16x64_S2x128x1024 := by
  after_results_simp_entrywise
  refine congrArg (fun v => shapeCast S2x128x1024 v shapeCasts_S2x128x16x64_S2x128x1024) ?_
  refine Host.dynamicSlice_eq_extractStridedSlice S2x128x16x64 (m ((c : Thread nD τ).loc main_arg0)) _ ![0, mOff c, 0, 0] sliceFits_S2x1024x16x64_S2x128x16x64 (mOff_slices c) fun a => ?_
  change Fin 4 at a
  fin_cases a
  · rfl
  · exact mineStart_val c
  · rfl
  · rfl

/-- A row cut from the whole and its heads laid side by side, entry by entry. -/
theorem row_read (v : S2x1024x16x64.Idx → Elt F .f32) (o : Nat) (h : S2x1024x16x64.Slices ![0, o, 0, 0] S2x128x16x64) (b : Fin 2) (t : Fin 128) (k : Fin 1024) (ht : o + t.val < 1024) :
    shapeCast S2x128x1024 (extractStridedSlice S2x128x16x64 ![0, o, 0, 0] v h) shapeCasts_S2x128x16x64_S2x128x1024 (ix3 b t k)
      = v (ix4 b ⟨o + t.val, ht⟩ ⟨k.val / 64, by omega⟩ ⟨k.val % 64, by omega⟩) := by
  rw [shapeCast_apply _ shapeCasts_S2x128x16x64_S2x128x1024 (ix3 b t k) (ix4 b t ⟨k.val / 64, by omega⟩ ⟨k.val % 64, by omega⟩)
    (by
      rw [Shape.rowMajor_val_four, Shape.rowMajor_val_three]
      show ((b.val * 128 + t.val) * 16 + k.val / 64) * 64 + k.val % 64 = (b.val * 128 + t.val) * 1024 + k.val
      omega)]
  exact extractStridedSlice_apply _ v h _ _ fun a => by fin_cases a <;> simp

end Cert.KernelIdeal.Swap

end
-- ==== Proof.Product.lean ====
/-
  The two products as sums: the kernel's of 32 rows, and the reference's of all.
-/
module

public import proofs.«01_k».proof.Proof.Gen.KernelIdeal
public import proofs.«01_k».proof.Proof.Gen.ReferenceIdeal
public import Idealize.ShloMosaic.Lib.Pointwise
public import Idealize.ShloMosaic.Lib.ValueIdx

@[expose] public section

set_option maxRecDepth 16384

noncomputable section

namespace Cert.Product

open Idealize.ShloMosaic

/-- An entry of the kernel's product of 32 rows with its rows of the weights. -/
theorem rows_apply (x : Cert.KernelIdeal.S32x1024.Idx → EReal) (w : Cert.KernelIdeal.S1024x2048.Idx → EReal) (j : Cert.KernelIdeal.S32x2048.Idx) :
    matmul (F := Ideal) (φ₁ := .f32) (φ₂ := .f32) Cert.KernelIdeal.dot_S32x1024_S1024x2048_S32x2048_1_0_0_1_n_n none x w (constant Cert.KernelIdeal.S32x2048 .f32 0x00000000#32) j
      = ∑ k : Fin 1024, x (ValueIdx.ix2 (j 0) k) * w (ValueIdx.ix2 k (j 1)) := by
  pointwise
  rfl

/-- An entry of the reference's product. -/
theorem whole_apply (x : Cert.ReferenceIdeal.S2x1024x2048.Idx → EReal) (w : Cert.ReferenceIdeal.S2048x2048.Idx → EReal) (j : Cert.ReferenceIdeal.S2x1024x2048.Idx) :
    Host.dotGeneral (F := Ideal) (φ₁ := .f32) (φ₂ := .f32) Cert.ReferenceIdeal.dot_S2x1024x2048_S2048x2048_S2x1024x2048_2_0_01_1_n_n none x w j
      = ∑ k : Fin 2048, x (ValueIdx.ix3 (j 0) (j 1) k) * w (ValueIdx.ix2 k (j 2)) := by
  pointwise
  rfl

end Cert.Product

end
-- ==== Proof.Value.lean ====
/-
  What each device's result is, as sums over the reference's two arrays.
-/
module

public import proofs.«01_k».proof.Proof.Base
public import proofs.«01_k».proof.Proof.HostVals
public import proofs.«01_k».proof.Proof.Product

@[expose] public section

set_option maxRecDepth 16384

noncomputable section

namespace Cert.KernelIdeal.Swap

open Idealize.ShloMosaic.TcCoe Idealize.ShloMosaic Idealize.ShloMosaic.ValueIdx
open Cert.KernelIdeal Cert.KernelIdeal.Gen

/-! ## The reference's sums -/

section Sums

variable (O : Cert.ReferenceIdeal.S2x1024x32x64.Idx → EReal) (W : Cert.ReferenceIdeal.S2048x2048.Idx → EReal)

/-- Entry `κ` of a token's row, its heads laid side by side. -/
def oAt (b : Fin 2) (t κ : ℕ) : EReal := O (ValueIdx.ix4 b (Fin.ofNat 1024 t) (Fin.ofNat 32 (κ / 64)) (Fin.ofNat 64 κ))

/-- Term `κ` of an entry of the product. -/
def term (b : Fin 2) (t : ℕ) (f : Fin 2048) (κ : ℕ) : EReal := oAt O b t κ * W (ValueIdx.ix2 (Fin.ofNat 2048 κ) f)

/-- The terms of the half `y` summed. -/
def half (y : ℕ) (b : Fin 2) (t : ℕ) (f : Fin 2048) : EReal := ∑ k : Fin 1024, term O W b t f (1024 * y + k.val)

/-- All of them summed. -/
def total (b : Fin 2) (t : ℕ) (f : Fin 2048) : EReal := ∑ κ : Fin 2048, term O W b t f κ.val

/-- The whole is its two halves. -/
theorem total_eq (b : Fin 2) (t : ℕ) (f : Fin 2048) : total O W b t f = half O W 0 b t f + half O W 1 b t f := by
  unfold total half
  rw [show (2048 : ℕ) = 1024 + 1024 from rfl, Fin.sum_univ_add]
  congr 1

/-- The reference's product, an entry at a time. -/
theorem whole_total (h : Cert.ReferenceIdeal.S2x1024x32x64.ShapeCasts Cert.ReferenceIdeal.S2x1024x2048) (j : Cert.ReferenceIdeal.S2x1024x2048.Idx) :
    Host.dotGeneral (F := Ideal) (φ₁ := .f32) (φ₂ := .f32) Cert.ReferenceIdeal.dot_S2x1024x2048_S2048x2048_S2x1024x2048_2_0_01_1_n_n none (shapeCast _ O h) W j
      = total O W (j 0) (j 1).val (j 2) := by
  rw [Cert.Product.whole_apply]
  unfold total term oAt
  refine Finset.sum_congr rfl fun k _ => ?_
  have hk := k.isLt
  have hj : (j 1).val < 1024 := (j 1).isLt
  rw [shapeCast_apply O h (ValueIdx.ix3 (j 0) (j 1) k) (ValueIdx.ix4 (j 0) (Fin.ofNat 1024 (j 1).val) (Fin.ofNat 32 (k.val / 64)) (Fin.ofNat 64 k.val))
    (by
      rw [Shape.rowMajor_val_four, Shape.rowMajor_val_three]
      show (((j 0).val * 1024 + (j 1).val % 1024) * 32 + (k.val / 64) % 32) * 64 + k.val % 64 = ((j 0).val * 1024 + (j 1).val) * 2048 + k.val
      omega)]
  rw [show (Fin.ofNat 2048 k.val : Fin 2048) = k from Fin.ext (Nat.mod_eq_of_lt hk)]

end Sums

/-! ## The kernel's pieces -/

/-- A product of 32 rows sent on, an entry at a time. -/
theorem pay1_apply (x : Vec Ideal S1x32x1024 .f32) (w : Vec Ideal S1024x2048 .f32) (i : Fin 32) (f : Fin 2048) :
    k0_pay1 (F := Ideal) x w (ValueIdx.ix4 0 0 i f) = ∑ k : Fin 1024, x (ValueIdx.ix3 0 i k) * w (ValueIdx.ix2 k f) := by
  unfold k0_pay1
  rw [shapeCast_apply _ shapeCasts_S32x2048_S1x1x32x2048 _ (ValueIdx.ix2 i f) (by
    rw [Shape.rowMajor_val_two, Shape.rowMajor_val_four]
    show i.val * 2048 + f.val = ((0 * 1 + 0) * 32 + i.val) * 2048 + f.val
    omega)]
  rw [truncf_apply, Cert.Product.rows_apply]
  refine Finset.sum_congr rfl fun k _ => ?_
  rw [shapeCast_apply x shapeCasts_S1x32x1024_S32x1024 _ (ValueIdx.ix3 0 i k) (by
    rw [Shape.rowMajor_val_two, Shape.rowMajor_val_three]
    show (0 * 32 + i.val) * 1024 + k.val = i.val * 1024 + k.val
    omega), shapeCast_apply w shapeCasts_S1024x2048_S1024x2048 _ (ValueIdx.ix2 k f) rfl]

/-- A product kept, an entry at a time. -/
theorem pay10_apply (x : Vec Ideal S1x32x1024 .f32) (w : Vec Ideal S1024x2048 .f32) (i : Fin 32) (f : Fin 2048) :
    k0_pay10 (F := Ideal) x w (ValueIdx.ix2 i f) = ∑ k : Fin 1024, x (ValueIdx.ix3 0 i k) * w (ValueIdx.ix2 k f) := by
  unfold k0_pay10
  rw [Cert.Product.rows_apply]
  refine Finset.sum_congr rfl fun k _ => ?_
  rw [shapeCast_apply x shapeCasts_S1x32x1024_S32x1024 _ (ValueIdx.ix3 0 i k) (by
    rw [Shape.rowMajor_val_two, Shape.rowMajor_val_three]
    show (0 * 32 + i.val) * 1024 + k.val = i.val * 1024 + k.val
    omega), shapeCast_apply w shapeCasts_S1024x2048_S1024x2048 _ (ValueIdx.ix2 k f) rfl]

/-- The sum of a product kept and one received. -/
theorem pay12_apply (v : FVec Ideal S32x2048 .f32) (u : Vec Ideal S1x1x32x2048 .bf16) (i : Fin 32) (f : Fin 2048) :
    k0_pay12 (F := Ideal) v u (ValueIdx.ix2 i f) = (v (ValueIdx.ix2 i f) + u (ValueIdx.ix4 0 0 i f) : EReal) := by
  unfold k0_pay12
  rw [addf_apply, extf_apply, shapeCast_apply u shapeCasts_S1x1x32x2048_S32x2048 _ (ValueIdx.ix4 0 0 i f) (by
    rw [Shape.rowMajor_val_two, Shape.rowMajor_val_four]
    show ((0 * 1 + 0) * 32 + i.val) * 2048 + f.val = i.val * 2048 + f.val
    omega)]

/-- The sum as the result's buffer takes it. -/
theorem pay13_apply (v : FVec Ideal S32x2048 .f32) (u : Vec Ideal S1x1x32x2048 .bf16) (i : Fin 32) (f : Fin 2048) :
    k0_pay13 (F := Ideal) v u (ValueIdx.ix3 0 i f) = (v (ValueIdx.ix2 i f) + u (ValueIdx.ix4 0 0 i f) : EReal) := by
  unfold k0_pay13
  rw [shapeCast_apply _ shapeCasts_S32x2048_S1x32x2048 _ (ValueIdx.ix2 i f) (by
    rw [Shape.rowMajor_val_two, Shape.rowMajor_val_three]
    show i.val * 2048 + f.val = (0 * 32 + i.val) * 2048 + f.val
    omega), pay12_apply]

/-- The sum as it is sent on. -/
theorem pay14_apply (v : FVec Ideal S32x2048 .f32) (u : Vec Ideal S1x1x32x2048 .bf16) (i : Fin 32) (f : Fin 2048) :
    k0_pay14 (F := Ideal) v u (ValueIdx.ix4 0 0 i f) = (v (ValueIdx.ix2 i f) + u (ValueIdx.ix4 0 0 i f) : EReal) := by
  unfold k0_pay14
  rw [shapeCast_apply _ shapeCasts_S32x2048_S1x1x32x2048 _ (ValueIdx.ix2 i f) (by
    rw [Shape.rowMajor_val_two, Shape.rowMajor_val_four]
    show i.val * 2048 + f.val = ((0 * 1 + 0) * 32 + i.val) * 2048 + f.val
    omega), truncf_apply, pay12_apply]

/-- A piece received, as the result's buffer takes it. -/
theorem pay48_apply (u : Vec Ideal S1x1x1x32x2048 .bf16) (i : Fin 32) (f : Fin 2048) :
    k0_pay48 (F := Ideal) u (ValueIdx.ix3 0 i f) = (u (ValueIdx.ix5 0 0 0 i f) : EReal) := by
  unfold k0_pay48
  rw [shapeCast_apply _ shapeCasts_S32x2048_S1x32x2048 _ (ValueIdx.ix2 i f) (by
    rw [Shape.rowMajor_val_two, Shape.rowMajor_val_three]
    show i.val * 2048 + f.val = (0 * 32 + i.val) * 2048 + f.val
    omega), extf_apply, shapeCast_apply u shapeCasts_S1x1x1x32x2048_S32x2048 _ (ValueIdx.ix5 0 0 0 i f) (by
    rw [Shape.rowMajor_val_two, Shape.rowMajor_val_five]
    show (((0 * 1 + 0) * 1 + 0) * 32 + i.val) * 2048 + f.val = i.val * 2048 + f.val
    omega)]

/-! ## What the devices hold -/

/-- A device's coordinate along `y`. -/
def yOf (c : Dev nD) : ℕ := c.val / 2 % 2

/-- The devices' inputs are their parts of the reference's arrays. -/
structure Holds (X : Ins Ideal) (O : Cert.ReferenceIdeal.S2x1024x32x64.Idx → EReal) (W : Cert.ReferenceIdeal.S2048x2048.Idx → EReal) : Prop where
  peer : ∀ c b (t : Fin 128) (k : Fin 1024), X.peer c (ValueIdx.ix3 b t k) = oAt O b (pOff c + t.val) (1024 * yOf c + k.val)
  mine : ∀ c b (t : Fin 128) (k : Fin 1024), X.mine c (ValueIdx.ix3 b t k) = oAt O b (mOff c + t.val) (1024 * yOf c + k.val)
  wo : ∀ c (k : Fin 1024) f, X.wo c (ValueIdx.ix2 k f) = W (ValueIdx.ix2 (Fin.ofNat 2048 (1024 * yOf c + k.val)) f)

section Pieces

variable {X : Ins Ideal} {O : Cert.ReferenceIdeal.S2x1024x32x64.Idx → EReal} {W : Cert.ReferenceIdeal.S2048x2048.Idx → EReal} (H : Holds X O W)

/-- Where a row of a block of 32 rows lies. -/
theorem emb_rectO (s : Fin 4) (b : Fin 2) (i : Fin 32) (k : Fin 1024) :
    (rectO s b).emb (ValueIdx.ix3 0 i k) = ValueIdx.ix3 b ⟨32 * s.val + i.val, by omega⟩ k := by
  funext a
  fin_cases a <;> refine Fin.ext ?_
  · show b.val + 1 * 0 = b.val; omega
  · show 32 * s.val + 1 * i.val = 32 * s.val + i.val; omega
  · show 0 + 1 * k.val = k.val; omega

/-- Where an entry of a piece received lies. -/
theorem emb_rect44 (r s : Fin 4) (b : Fin 2) (i : Fin 32) (f : Fin 2048) :
    (rect44 r s b).emb (ValueIdx.ix5 0 0 0 i f) = ValueIdx.ix5 r s b i f := by
  funext a
  fin_cases a <;> refine Fin.ext ?_
  · show r.val + 1 * 0 = r.val; omega
  · show s.val + 1 * 0 = s.val; omega
  · show b.val + 1 * 0 = b.val; omega
  · show 0 + 1 * i.val = i.val; omega
  · show 0 + 1 * f.val = f.val; omega

/-- The neighbour across `y` works for the rows of this device, with the other half. -/
theorem across : ∀ c : Dev nD, pOff (nb 0 c) = mOff c ∧ (yOf c = 0 ∧ yOf (nb 0 c) = 1 ∨ yOf c = 1 ∧ yOf (nb 0 c) = 0) := by decide

/-- The device a piece comes from has the rows the piece stands for. -/
theorem own_rows : ∀ (c : Dev nD) (r : Fin 4), mOff (own c r) = 512 * yOf c + 128 * r.val := by decide

include H

/-- What a device sends across `y` is its half of the neighbour's rows. -/
theorem psend_half (c : Dev nD) (s : Fin 4) (b : Fin 2) (i : Fin 32) (f : Fin 2048) :
    psendC X c (ValueIdx.ix4 s b i f) = half O W (yOf c) b (pOff c + (32 * s.val + i.val)) f := by
  unfold psendC half term
  refine (pay1_apply _ _ i f).trans (Finset.sum_congr rfl fun k _ => ?_)
  show X.peer c ((rectO s b).emb (ValueIdx.ix3 0 i k)) * _ = _
  rw [emb_rectO, H.peer, H.wo]

/-- What it keeps is its half of its own. -/
theorem mine_half (c : Dev nD) (s : Fin 4) (b : Fin 2) (i : Fin 32) (f : Fin 2048) :
    mineC X c s b (ValueIdx.ix2 i f) = half O W (yOf c) b (mOff c + (32 * s.val + i.val)) f := by
  unfold mineC half term
  refine (pay10_apply _ _ i f).trans (Finset.sum_congr rfl fun k _ => ?_)
  show X.mine c ((rectO s b).emb (ValueIdx.ix3 0 i k)) * _ = _
  rw [emb_rectO, H.mine, H.wo]

/-- The two together are the whole. -/
theorem halves_total (c : Dev nD) (s : Fin 4) (b : Fin 2) (i : Fin 32) (f : Fin 2048) :
    (mineC X c s b (ValueIdx.ix2 i f) + precvC X c (ValueIdx.ix4 s b i f) : EReal) = total O W b (mOff c + (32 * s.val + i.val)) f := by
  unfold precvC
  rw [psend_half H, mine_half H, total_eq, (across c).1]
  rcases (across c).2 with ⟨h, h'⟩ | ⟨h, h'⟩ <;> rw [h, h']
  exact add_comm _ _

/-- What is sent on is the whole. -/
theorem agsend_total (c : Dev nD) (s : Fin 4) (b : Fin 2) (i : Fin 32) (f : Fin 2048) :
    agsendC X c (ValueIdx.ix4 s b i f) = total O W b (mOff c + (32 * s.val + i.val)) f := by
  unfold agsendC
  refine (pay14_apply _ _ i f).trans ?_
  rw [← halves_total H c s b i f]
  show (mineC X c s b (ValueIdx.ix2 i f) + precvC X c ((rect4 s b).emb (ValueIdx.ix4 0 0 i f)) : EReal) = _
  rw [emb_rect4]
  rfl

/-- What is written of one's own is the whole. -/
theorem q_total (c : Dev nD) (s : Fin 4) (b : Fin 2) (i : Fin 32) (f : Fin 2048) :
    qC X c s b (ValueIdx.ix3 0 i f) = total O W b (mOff c + (32 * s.val + i.val)) f := by
  unfold qC
  refine (pay13_apply _ _ i f).trans ?_
  rw [← halves_total H c s b i f]
  show (mineC X c s b (ValueIdx.ix2 i f) + precvC X c ((rect4 s b).emb (ValueIdx.ix4 0 0 i f)) : EReal) = _
  rw [emb_rect4]
  rfl

/-- What is written of another's is the whole of its rows. -/
theorem g_total (c : Dev nD) (r s : Fin 4) (b : Fin 2) (i : Fin 32) (f : Fin 2048) :
    gC X c r s b (ValueIdx.ix3 0 i f) = total O W b (mOff (own c r) + (32 * s.val + i.val)) f := by
  unfold gC
  refine (pay48_apply _ i f).trans ?_
  rw [← agsend_total H (own c r) s b i f]
  show agrecvC X c ((rect44 r s b).emb (ValueIdx.ix5 0 0 0 i f)) = _
  rw [emb_rect44]
  rfl

/-- A device's result is the whole, for its half of the rows. -/
theorem out_total (c : Dev nD) (i : S2x512x2048.Idx) : outC X c i = total O W (i 0) (512 * yOf c + (i 1).val) (i 2) := by
  have hi : (i 1).val < 512 := (i 1).isLt
  have key : ∀ d : Dev nD, mOff d = 512 * yOf c + 128 * (rOf (kAt i)).val →
      mOff d + (32 * (sOf (kAt i)).val + (rowAt i).val) = 512 * yOf c + (i 1).val := by
    intro d hd
    rw [hd]
    show 512 * yOf c + 128 * ((i 1).val / 32 / 4) + (32 * ((i 1).val / 32 % 4) + (i 1).val % 32) = 512 * yOf c + (i 1).val
    omega
  unfold outC pieceC
  by_cases h : rOf (kAt i) = ri c
  · rw [if_pos h]
    refine (q_total H c (sOf (kAt i)) (i 0) (rowAt i) (i 2)).trans ?_
    rw [key c (by rw [h]; have := own_rows c (ri c); rwa [own_ri] at this)]
  · rw [if_neg h]
    refine (g_total H c (rOf (kAt i)) (sOf (kAt i)) (i 0) (rowAt i) (i 2)).trans ?_
    rw [key _ (own_rows c _)]

end Pieces

/-! ## The parts the devices are launched with -/

/-- A device's coordinate along `y` is the one that says which block it holds. -/
theorem y_block : ∀ c : Dev nD, Layout.meshLin [2, 2, 2] c.val [1] = yOf c := by decide

theorem y_le : ∀ c : Dev nD, yOf c ≤ 1 := by decide

theorem pOff_le : ∀ c : Dev nD, pOff c ≤ 896 := by decide

theorem mOff_le : ∀ c : Dev nD, mOff c ≤ 896 := by decide

/-- Launched with their parts of the two arrays, the devices hand the kernel their parts. -/
theorem holds_of (m : (ℓ : Loc nD τ sig) → Buf (Elt Ideal) ℓ) (O : Cert.ReferenceIdeal.S2x1024x32x64.Idx → EReal) (W : Cert.ReferenceIdeal.S2048x2048.Idx → EReal)
    (hm : ∀ c : Dev nD, m ((c.tc : Thread nD τ).loc main_arg0) = Layout.blockN ⟨4, ![2, 1024, 16, 64]⟩ ⟨4, ![2, 1024, 32, 64]⟩ (Layout.meshBlock [2, 2, 2] ![[], [], [1], []] c) O
      ∧ m ((c.tc : Thread nD τ).loc main_arg1) = Layout.blockN ⟨2, ![1024, 2048]⟩ ⟨2, ![2048, 2048]⟩ (Layout.meshBlock [2, 2, 2] ![[1], []] c) W) :
    Holds ⟨fun c => V1 m c main_v26, fun c => V1 m c main_v31, fun c => V1 m c main_arg1⟩ O W := by
  have entry : ∀ (c : Dev nD) (b : Fin 2) (t : ℕ) (ht : t < 1024) (k : Fin 1024),
      m ((c.tc : Thread nD τ).loc main_arg0) (ValueIdx.ix4 b ⟨t, ht⟩ ⟨k.val / 64, by omega⟩ ⟨k.val % 64, by omega⟩) = oAt O b t (1024 * yOf c + k.val) := by
    intro c b t ht k
    have hy := y_le c
    rw [(hm c).1, Layout.blockN_apply]
    unfold oAt
    refine congrArg O (funext fun a => Fin.ext ?_)
    rw [Layout.TilesN.idx_val]
    fin_cases a
    · show 0 * 2 + b.val = b.val; omega
    · show 0 * 1024 + t = t % 1024; omega
    · show Layout.meshLin [2, 2, 2] c.val [1] * 16 + k.val / 64 = (1024 * yOf c + k.val) / 64 % 32
      rw [y_block]; omega
    · show 0 * 64 + k.val % 64 = (1024 * yOf c + k.val) % 64; omega
  refine ⟨fun c b t k => ?_, fun c b t k => ?_, fun c k f => ?_⟩
  · have := pOff_le c
    show V1 m c main_v26 _ = _
    rw [peer_slice]
    exact (row_read _ _ _ b t k (by omega)).trans (entry c b _ _ k)
  · have := mOff_le c
    show V1 m c main_v31 _ = _
    rw [mine_slice]
    exact (row_read _ _ _ b t k (by omega)).trans (entry c b _ _ k)
  · have hy := y_le c
    show V1 m c main_arg1 _ = _
    rw [V1_of m c main_arg1 (by decide)]
    show m ((c.tc : Thread nD τ).loc main_arg1) _ = _
    rw [(hm c).2, Layout.blockN_apply]
    refine congrArg W (funext fun a => Fin.ext ?_)
    rw [Layout.TilesN.idx_val]
    fin_cases a
    · show Layout.meshLin [2, 2, 2] c.val [1] * 1024 + k.val = (1024 * yOf c + k.val) % 2048
      rw [y_block]; omega
    · show 0 * 2048 + f.val = f.val; omega

/-- Each device's result is its part of the reference's. -/
theorem out_block {X : Ins Ideal} {O : Cert.ReferenceIdeal.S2x1024x32x64.Idx → EReal} {W : Cert.ReferenceIdeal.S2048x2048.Idx → EReal} (H : Holds X O W)
    (h : Cert.ReferenceIdeal.S2x1024x32x64.ShapeCasts Cert.ReferenceIdeal.S2x1024x2048) (c : Dev nD) :
    outC X c = Layout.blockN ⟨3, ![2, 512, 2048]⟩ ⟨3, ![2, 1024, 2048]⟩ (Layout.meshBlock [2, 2, 2] ![[], [1], []] c)
      (Host.dotGeneral (F := Ideal) (φ₁ := .f32) (φ₂ := .f32) Cert.ReferenceIdeal.dot_S2x1024x2048_S2048x2048_S2x1024x2048_2_0_01_1_n_n none (shapeCast _ O h) W) := by
  funext i
  rw [out_total H c i, Layout.blockN_apply, whole_total]
  have e : ∀ (b b' : Fin 2) (t t' : ℕ) (f f' : Fin 2048), b = b' → t = t' → f = f' → total O W b t f = total O W b' t' f' := by
    rintro b _ t _ f _ rfl rfl rfl; rfl
  refine e _ _ _ _ _ _ (Fin.ext ?_) ?_ (Fin.ext ?_)
  · rw [Layout.TilesN.idx_val]
    show (i 0).val = 0 * 2 + (i 0).val; omega
  · rw [Layout.TilesN.idx_val]
    show 512 * yOf c + (i 1).val = Layout.meshLin [2, 2, 2] c.val [1] * 512 + (i 1).val
    rw [y_block]; omega
  · rw [Layout.TilesN.idx_val]
    show (i 2).val = 0 * 2048 + (i 2).val; omega

end Cert.KernelIdeal.Swap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Body
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Swap

/-- The kernel's body meets what the launch asks of it, for any float values. -/
theorem body_runs (F : FTy → Type) [FloatOps F] : BodyRuns F := fun X K c Q => body_run X c (recs_ok X K c) Q

/-- The two programs call the same kernel. -/
theorem kernels_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨n + 1, h⟩, x => exact absurd h (Nat.not_lt.2 (Nat.le_add_left _ _))

/-- So they call the same bodies. -/
theorem defs_eq : Cert.Kernel.defs (F := Bits) = Cert.KernelIdeal.defs (F := Bits) :=
  congrArg (Pipeline.defs Cert.Kernel.pcfgs) kernels_eq

/-- The kernel as compiled runs, leaves its arguments as they were and every counter at zero. -/
theorem frame_kernel : Cert.quiescent_Kernel := fun m ρ _ => by
  have h := (θ_run (Cert.KernelIdeal.defs (F := Bits)) _ _).mono (fun _ h => (⟨fun c => ⟨(h.1 c).1, (h.1 c).2.1⟩, h.2⟩ :
    (∀ c : Dev Cert.KernelIdeal.nD, _ ∧ _) ∧ _)) (run_main (F := Bits) m ρ (body_runs Bits))
  rw [defs_eq]
  exact h

/-- So does the kernel read over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ (body_runs Ideal))

/-- And the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its part of the reference's product. -/
theorem algebraic : Cert.algebraic_KernelIdeal_ReferenceIdeal := by
  intro m ρ m' ρ' _ hm
  refine ⟨_, ?_, (θ_run Cert.ReferenceIdeal.defs _ _).mono (fun r h => h 0) (Cert.ReferenceIdeal.Value.run (F := Ideal) m' ρ')⟩
  refine (θ_run Cert.KernelIdeal.defs _ _).mono (fun _ h c => ⟨(h.1 c).2.2.trans ?_, (h.1 c).1, (h.1 c).2.1⟩) (run_main (F := Ideal) m ρ (body_runs Ideal))
  exact out_block (holds_of m _ _ hm) _ c

/-- The three frames, the idealization and the value claim. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
